-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![16384, 2048]⟩ ⟨2, ![32768, 2048]⟩ (Layout.meshBlock [2, 4, 4] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![32768, 1024]⟩ ⟨2, ![32768, 2048]⟩ (Layout.meshBlock [2, 4, 4] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x2048 : Shape := ⟨2, ![16384, 2048]⟩
abbrev S32768x1024 : Shape := ⟨2, ![32768, 1024]⟩
abbrev S2x2048x2048 : Shape := ⟨3, ![2, 2048, 2048]⟩
abbrev S2x2048x1024 : Shape := ⟨3, ![2, 2048, 1024]⟩
abbrev S2 : Shape := ⟨1, ![2]⟩
abbrev S8 : Shape := ⟨1, ![8]⟩
abbrev S_ : Shape := ⟨0, ![]⟩
abbrev S1 : Shape := ⟨1, ![1]⟩
abbrev S1x2048x2048 : Shape := ⟨3, ![1, 2048, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x2048, .f32⟩
  | .hbm, ⟨1, _⟩ => ⟨S32768x1024, .bf16⟩
  | .local _ .vmem, ⟨0, _⟩ => ⟨S2x2048x2048, .f32⟩
  | .local _ .vmem, ⟨1, _⟩ => ⟨S2x2048x1024, .bf16⟩
  | .local _ .vmem, ⟨2, _⟩ => ⟨S2x2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_31 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v44 : BitVec 32 := Scalar.muli v2 c16384_i32
  let v45 : BitVec 32 := Scalar.addi v44 c0_i32_31
  let c0_i32_39 : BitVec 32 := 0#32
  ![v45.toNat, 0]
def k0_dev2 (d0 : Dev nD) : Nat :=
  let c0_i32_36 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_35 : BitVec 32 := 16#32
  let v46 : BitVec 32 := Scalar.muli v9 c16_i32_35
  let v47 : BitVec 32 := Scalar.addi c0_i32_36 v46
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v48 : BitVec 32 := Scalar.muli v5 c4_i32_37
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v50 : BitVec 32 := Scalar.muli v8 c1_i32_38
  let v51 : BitVec 32 := Scalar.addi v49 v50
  v51.toNat
def k0_dev3 (d0 : Dev nD) : Nat :=
  let c0_i32_72 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_71 : BitVec 32 := 16#32
  let v90 : BitVec 32 := Scalar.muli v9 c16_i32_71
  let v91 : BitVec 32 := Scalar.addi c0_i32_72 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v92 : BitVec 32 := Scalar.muli v5 c4_i32_73
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v94 : BitVec 32 := Scalar.muli v8 c1_i32_74
  let v95 : BitVec 32 := Scalar.addi v93 v94
  v95.toNat
def k0_dev4 (d0 : Dev nD) : Nat :=
  let c0_i32_125 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_124 : BitVec 32 := 16#32
  let v148 : BitVec 32 := Scalar.muli v9 c16_i32_124
  let v149 : BitVec 32 := Scalar.addi c0_i32_125 v148
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_126 : BitVec 32 := 4#32
  let v150 : BitVec 32 := Scalar.muli v5 c4_i32_126
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v152 : BitVec 32 := Scalar.muli v8 c1_i32_127
  let v153 : BitVec 32 := Scalar.addi v151 v152
  v153.toNat
def k0_dev5 (d0 : Dev nD) : Nat :=
  let c0_i32_177 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_176 : BitVec 32 := 16#32
  let v206 : BitVec 32 := Scalar.muli v9 c16_i32_176
  let v207 : BitVec 32 := Scalar.addi c0_i32_177 v206
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_178 : BitVec 32 := 4#32
  let v208 : BitVec 32 := Scalar.muli v5 c4_i32_178
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v210 : BitVec 32 := Scalar.muli v8 c1_i32_179
  let v211 : BitVec 32 := Scalar.addi v209 v210
  v211.toNat
def k0_dev6 (d0 : Dev nD) : Nat :=
  let c0_i32_230 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_229 : BitVec 32 := 16#32
  let v264 : BitVec 32 := Scalar.muli v9 c16_i32_229
  let v265 : BitVec 32 := Scalar.addi c0_i32_230 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v266 : BitVec 32 := Scalar.muli v5 c4_i32_231
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v268 : BitVec 32 := Scalar.muli v8 c1_i32_232
  let v269 : BitVec 32 := Scalar.addi v267 v268
  v269.toNat
def k0_dev7 (d0 : Dev nD) : Nat :=
  let c0_i32_282 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_281 : BitVec 32 := 16#32
  let v322 : BitVec 32 := Scalar.muli v9 c16_i32_281
  let v323 : BitVec 32 := Scalar.addi c0_i32_282 v322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_283 : BitVec 32 := 4#32
  let v324 : BitVec 32 := Scalar.muli v5 c4_i32_283
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v326 : BitVec 32 := Scalar.muli v8 c1_i32_284
  let v327 : BitVec 32 := Scalar.addi v325 v326
  v327.toNat
def k0_dev8 (d0 : Dev nD) : Nat :=
  let c0_i32_334 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_333 : BitVec 32 := 16#32
  let v380 : BitVec 32 := Scalar.muli v9 c16_i32_333
  let v381 : BitVec 32 := Scalar.addi c0_i32_334 v380
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_335 : BitVec 32 := 4#32
  let v382 : BitVec 32 := Scalar.muli v5 c4_i32_335
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_336 : BitVec 32 := 1#32
  let v384 : BitVec 32 := Scalar.muli v8 c1_i32_336
  let v385 : BitVec 32 := Scalar.addi v383 v384
  v385.toNat
def k0_dev9 (d0 : Dev nD) : Nat :=
  let c0_i32_381 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_380 : BitVec 32 := 16#32
  let v433 : BitVec 32 := Scalar.muli v9 c16_i32_380
  let v434 : BitVec 32 := Scalar.addi c0_i32_381 v433
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_382 : BitVec 32 := 4#32
  let v435 : BitVec 32 := Scalar.muli v5 c4_i32_382
  let v436 : BitVec 32 := Scalar.addi v434 v435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v437 : BitVec 32 := Scalar.muli v8 c1_i32_383
  let v438 : BitVec 32 := Scalar.addi v436 v437
  v438.toNat
-- ==== Reference.lean ====
abbrev S32768x2048 : Shape := ⟨2, ![32768, 2048]⟩

abbrev nBuf : Space → Nat
  | .hbm => 2
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Blocks.lean ====
/-
The kernel's body, cut into named steps.

Every device works through its 16384 rows in eight chunks of 2048 rows. One chunk is copied into one of two
on-chip slots, halved by columns and rounded to bf16; the half the device keeps is copied to its own result, the
other half is sent to the device it trades with. This module names each of these operations once, for any chunk
`i` and slot `s`, and states that each printed part of the body is a sequence of them.
-/
module

public import proofs.«01_k».proof.Proof.Gen.KernelIdeal
public import proofs.«01_k».proof.Proof.Gen.KernelIdeal.Skeleton

@[expose] public section

set_option synthInstance.maxSize 4096

noncomputable section

namespace Cert.KernelIdeal.Trade

open Cert.KernelIdeal Cert.KernelIdeal.Gen
open Idealize.ShloMosaic Idealize.ShloMosaic.TcCoe
open Idealize.SL.Sem

variable {F : FTy → Type} [FloatOps F]

/-! ## The buffers, by chunk and by slot -/

/-- The device's argument, its result, and the three on-chip buffers. -/
abbrev xM : Memref sig .tc .hbm S16384x2048 .f32 := Memref.whole main_arg0
abbrev yM : Memref sig .tc .hbm S32768x1024 .bf16 := Memref.whole main_v1
abbrev inBuf : Memref sig .tc .vmem S2x2048x2048 .f32 := Memref.whole cc0_scratch0
abbrev sendBuf : Memref sig .tc .vmem S2x2048x1024 .bf16 := Memref.whole cc0_scratch1
abbrev keepBuf : Memref sig .tc .vmem S2x2048x1024 .bf16 := Memref.whole cc0_scratch2

theorem inb_x (i : Fin 8) : ∀ a, (![2048 * i.val, 0] : Fin 2 → Nat) a + S2048x2048.size a ≤ S16384x2048.size a := by
  revert i; decide
theorem inb_in (s : Fin 2) : ∀ a, (![s.val, 0, 0] : Fin 3 → Nat) a + S1x2048x2048.size a ≤ S2x2048x2048.size a := by
  revert s; decide
theorem inb_half (s : Fin 2) : ∀ a, (![s.val, 0, 0] : Fin 3 → Nat) a + S1x2048x1024.size a ≤ S2x2048x1024.size a := by
  revert s; decide
theorem inb_two (s : Fin 2) : ∀ a, (![s.val] : Fin 1 → Nat) a + S1.size a ≤ S2.size a := by
  revert s; decide
theorem inb_eight (i : Fin 8) : ∀ a, (![i.val] : Fin 1 → Nat) a + S1.size a ≤ S8.size a := by
  revert i; decide

/-- Slot `s` of the input buffer, and of the two buffers of halves, as rectangles. -/
abbrev inRect (s : Fin 2) : Rect S2x2048x2048 := Rect.unit (s := S2x2048x2048) ![s.val, 0, 0] S1x2048x2048.size (inb_in s)
abbrev halfRect (s : Fin 2) : Rect S2x2048x1024 := Rect.unit (s := S2x2048x1024) ![s.val, 0, 0] S1x2048x1024.size (inb_half s)

theorem words_half (s : Fin 2) : (halfRect s).WholeWords (EltTy.packing .bf16) := by revert s; decide
theorem packed_half (s : Fin 2) : (halfRect s).PackedRows (EltTy.packing .bf16) := by revert s; decide

/-- Chunk `i` of the device's argument. -/
abbrev xRows (i : Fin 8) : Memref sig .tc .hbm S2048x2048 .f32 :=
  xM.slice (Rect.unit (s := S16384x2048) ![2048 * i.val, 0] S2048x2048.size (inb_x i)) (fun _ => rfl)
/-- The rows of a result that hold chunk `i` of device `d`. -/
abbrev yRows (d : Dev nD) (i : Fin 8) : Memref sig .tc .hbm S2048x1024 .bf16 :=
  yM.slice (Rect.unit (s := S32768x1024) (k0_off1 d (BitVec.ofNat 32 (2048 * i.val))) S2048x1024.size (k0_off1_inb d i)) (fun _ => rfl)
/-- Slot `s` of each on-chip buffer, its leading axis dropped. -/
abbrev inSlot (s : Fin 2) : Memref sig .tc .vmem S2048x2048 .f32 :=
  (inBuf.slice (inRect s) (fun _ => rfl)).squeeze S2048x2048 squeezes_S1x2048x2048_S2048x2048
abbrev sendSlot (s : Fin 2) : Memref sig .tc .vmem S2048x1024 .bf16 :=
  (sendBuf.slice (halfRect s) (fun _ => rfl)).squeeze S2048x1024 squeezes_S1x2048x1024_S2048x1024
abbrev keepSlot (s : Fin 2) : Memref sig .tc .vmem S2048x1024 .bf16 :=
  (keepBuf.slice (halfRect s) (fun _ => rfl)).squeeze S2048x1024 squeezes_S1x2048x1024_S2048x1024

/-- The semaphores: of the input slots, and of each chunk's sending, receiving and keeping. -/
abbrev inSem (s : Fin 2) : DmaSem sig :=
  ((cc0_scratch3.slice (Rect.unit (s := S2) ![s.val] S1.size (inb_two s))).squeeze S_ squeezes_S1_S_).sem
abbrev sendSem (i : Fin 8) : DmaSem sig :=
  ((cc0_scratch4.slice (Rect.unit (s := S8) ![i.val] S1.size (inb_eight i))).squeeze S_ squeezes_S1_S_).sem
abbrev recvSem (i : Fin 8) : DmaSem sig :=
  ((cc0_scratch5.slice (Rect.unit (s := S8) ![i.val] S1.size (inb_eight i))).squeeze S_ squeezes_S1_S_).sem
abbrev keepSem (i : Fin 8) : DmaSem sig :=
  ((cc0_scratch6.slice (Rect.unit (s := S8) ![i.val] S1.size (inb_eight i))).squeeze S_ squeezes_S1_S_).sem
abbrev barSem : Sem sig := (SemArray.scalar (sig.barrier 0 rfl) : Sems sig S_).sem

/-! ## The steps -/

abbrev Step (α : Type) : Type _ := Prog (TpuEff nD τ sig (Elt F) Λ₀ .tc) α

/-- Start copying chunk `i` into input slot `s`; wait for it. -/
def copyIn (i : Fin 8) (s : Fin 2) : Step (F := F) PUnit :=
  Prog.lift (.enqueueDma (xRows i) (.here (inSlot s)) (.dma (inSem s)) (View.wordExact_bits rfl) ((View.wordExact_bits rfl).reshape _ _) ⟨Or.inl rfl, trivial⟩)
def waitIn (i : Fin 8) (s : Fin 2) : Step (F := F) PUnit :=
  Prog.lift (.waitDma2 (inSem s) (xRows i) (inSlot s) (View.wordExact_bits rfl) ((View.wordExact_bits rfl).reshape _ _))

/-- Start sending slot `s`'s half to device `n`, into the rows of `n`'s result that hold chunk `i` of `d`; wait until
    it has left. -/
def sendOut (d n : Dev nD) (i : Fin 8) (s : Fin 2) : Step (F := F) PUnit :=
  Prog.lift (.enqueueDma (sendSlot s) (.remote (Dev.tc n) (yRows d i) (.dma (sendSem i))) (.dma (recvSem i))
    (((Memref.isWhole_whole cc0_scratch1).wordExact_slice rfl _ (words_half s)).reshape _ _)
    ((Memref.isWhole_whole main_v1).wordExact_slice rfl _ (k0_off1_wordsbf16 d i)) ⟨⟨rfl, Or.inl rfl⟩, trivial⟩)
def waitSend (d : Dev nD) (i : Fin 8) (s : Fin 2) : Step (F := F) PUnit :=
  Prog.lift (.waitDma2 (sendSem i) (yRows d i) (sendSlot s) ((Memref.isWhole_whole main_v1).wordExact_slice rfl _ (k0_off1_wordsbf16 d i))
    (((Memref.isWhole_whole cc0_scratch1).wordExact_slice rfl _ (words_half s)).reshape _ _))

/-- Start copying slot `s`'s kept half into the device's own result; wait for it. -/
def keepOut (d : Dev nD) (i : Fin 8) (s : Fin 2) : Step (F := F) PUnit :=
  Prog.lift (.enqueueDma (keepSlot s) (.here (yRows d i)) (.dma (keepSem i))
    (((Memref.isWhole_whole cc0_scratch2).wordExact_slice rfl _ (words_half s)).reshape _ _)
    ((Memref.isWhole_whole main_v1).wordExact_slice rfl _ (k0_off1_wordsbf16 d i)) ⟨Or.inl rfl, trivial⟩)
def waitKeep (d : Dev nD) (i : Fin 8) (s : Fin 2) : Step (F := F) PUnit :=
  Prog.lift (.waitDma2 (keepSem i) (keepSlot s) (yRows d i)
    (((Memref.isWhole_whole cc0_scratch2).wordExact_slice rfl _ (words_half s)).reshape _ _)
    ((Memref.isWhole_whole main_v1).wordExact_slice rfl _ (k0_off1_wordsbf16 d i)))

/-- Wait for the chunk `i` that the other device sends. -/
def waitRecv (d : Dev nD) (i : Fin 8) : Step (F := F) PUnit :=
  Prog.lift (.waitDma2 (recvSem i) (sendSlot 0) (yRows d i)
    (((Memref.isWhole_whole cc0_scratch1).wordExact_slice rfl _ (words_half 0)).reshape _ _)
    ((Memref.isWhole_whole main_v1).wordExact_slice rfl _ (k0_off1_wordsbf16 d i)))

/-- Read slot `s`, round its two halves, and store the one to send and the one to keep; which is which goes by the
    word `w` (0 or 1), the device's place along the traded axis. Then go on with `k`. -/
def castThen {α : Type} (s : Fin 2) (w : BitVec 32) (k : Step (F := F) α) : Step (F := F) α := do
  let v ← Prog.lift (.load inBuf (inRect s).toLoadRect (View.loadsAt_vmem h_S1x2048x2048))
  if h : Scalar.cmpi .ne (Scalar.extui (Scalar.cmpi .eq w 0#32) : BitVec 32) 0#32 = 1#1 then do
    let _ ← Prog.lift (.load sendBuf (halfRect s).toLoadRect (View.loadsAt_vmem h_S1x2048x1024))
    Prog.lift (.store sendBuf (halfRect s) (k0_pay4 v) Finset.univ (View.stores_vmem h_S1x2048x1024 ((Memref.isWhole_whole cc0_scratch1).storeExact_slice rfl _ (packed_half s)) (fun _ => rfl)) (.inl rfl))
    let _ ← Prog.lift (.load keepBuf (halfRect s).toLoadRect (View.loadsAt_vmem h_S1x2048x1024))
    Prog.lift (.store keepBuf (halfRect s) (k0_pay5 v) Finset.univ (View.stores_vmem h_S1x2048x1024 ((Memref.isWhole_whole cc0_scratch2).storeExact_slice rfl _ (packed_half s)) (fun _ => rfl)) (.inl rfl))
    pure ⟨⟩
  else do
    pure ⟨⟩
  if h : Scalar.cmpi .ne (Scalar.extui (Scalar.cmpi .eq w 1#32) : BitVec 32) 0#32 = 1#1 then do
    let _ ← Prog.lift (.load sendBuf (halfRect s).toLoadRect (View.loadsAt_vmem h_S1x2048x1024))
    Prog.lift (.store sendBuf (halfRect s) (k0_pay6 v) Finset.univ (View.stores_vmem h_S1x2048x1024 ((Memref.isWhole_whole cc0_scratch1).storeExact_slice rfl _ (packed_half s)) (fun _ => rfl)) (.inl rfl))
    let _ ← Prog.lift (.load keepBuf (halfRect s).toLoadRect (View.loadsAt_vmem h_S1x2048x1024))
    Prog.lift (.store keepBuf (halfRect s) (k0_pay7 v) Finset.univ (View.stores_vmem h_S1x2048x1024 ((Memref.isWhole_whole cc0_scratch2).storeExact_slice rfl _ (packed_half s)) (fun _ => rfl)) (.inl rfl))
    pure ⟨⟩
  else do
    pure ⟨⟩
  k

/-- The device's place along the traded axis, as the body computes it. -/
abbrev placeWord (d : Dev nD) : BitVec 32 := Scalar.remsi (Scalar.divsi (Dev.word d) 16#32) 2#32

/-! ## The printed parts -/

/-- The device that device `d`'s body names as the one it trades with, at the barrier and for each chunk. -/
def barDev (d : Dev nD) : Dev nD := ⟨k0_dev1 d, k0_dev1_lt d⟩
def tradeDev (d : Dev nD) (i : Fin 8) : Dev nD := match i with
  | 0 => ⟨k0_dev2 d, k0_dev2_lt d⟩
  | 1 => ⟨k0_dev3 d, k0_dev3_lt d⟩
  | 2 => ⟨k0_dev4 d, k0_dev4_lt d⟩
  | 3 => ⟨k0_dev5 d, k0_dev5_lt d⟩
  | 4 => ⟨k0_dev6 d, k0_dev6_lt d⟩
  | 5 => ⟨k0_dev7 d, k0_dev7_lt d⟩
  | 6 => ⟨k0_dev8 d, k0_dev8_lt d⟩
  | 7 => ⟨k0_dev9 d, k0_dev9_lt d⟩

/-- The opening: tell the trading device that this one's result may be written, hear the same, fetch chunk 0. -/
def opening (d : Dev nD) : Step (F := F) PUnit := do
  semSignalWord (barDev d) barSem 1#32
  semWaitWord barSem 1#32
  copyIn 0 0
  waitIn 0 0

/-- Chunk 0, while chunk 1 is fetched; chunk 1's rounding, while chunk 2 is fetched. -/
def firstChunk (d : Dev nD) (w : BitVec 32) : Step (F := F) (BitVec 32) := do
  copyIn 1 1
  castThen 0 w (do sendOut d (tradeDev d 0) 0 0; pure 16384#32)
def secondChunk (d : Dev nD) (w : BitVec 32) : Step (F := F) (BitVec 32) := do
  keepOut d 0 0
  waitIn 1 1
  copyIn 2 0
  castThen 1 w (pure 16384#32)

/-- The first half of a middle chunk: chunk `p`, which used the same slot `s`, is waited for, chunk `q` is fetched
    into the other slot `t`, and slot `s` is rounded. -/
def middleA (d : Dev nD) (w : BitVec 32) (p q : Fin 8) (s t : Fin 2) : Step (F := F) (BitVec 32) := do
  waitSend d p s
  waitKeep d p s
  copyIn q t
  castThen s w (pure 16384#32)

/-- The second half: the two halves of chunk `j` leave, and chunk `q` has arrived. -/
def middleB (d : Dev nD) (j q : Fin 8) (s t : Fin 2) : Step (F := F) PUnit := do
  sendOut d (tradeDev d j) j s
  keepOut d j s
  waitIn q t

/-- The last chunk, which fetches nothing; its rounding is followed by `r`. -/
def lastChunk {α : Type} (d : Dev nD) (w : BitVec 32) (r : α) : Step (F := F) α := do
  waitSend d 5 1
  waitKeep d 5 1
  castThen 1 w (pure r)

/-- The end: the last chunk's halves leave, and everything outstanding is waited for. -/
def lastOut (d : Dev nD) : Step (F := F) PUnit := do
  sendOut d (tradeDev d 7) 7 1
  keepOut d 7 1
  waitSend d 6 0
def drain (d : Dev nD) : Step (F := F) PUnit := do
  waitKeep d 6 0
  waitSend d 7 1
  waitKeep d 7 1
  waitRecv d 0

variable (d : Dev nD) (w a b c e f g : BitVec 32)

/-! Each printed part is the named sequence. -/

set_option maxRecDepth 65536
theorem part1_eq : k0_part1 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 = (do
    let d ← Prog.lift .deviceId
    opening d
    pure ⟨d, placeWord d, Scalar.remsi (Scalar.divsi (Dev.word d) 4#32) 4#32, Scalar.remsi (Scalar.divsi (Dev.word d) 1#32) 4#32, Scalar.subi 1#32 (placeWord d)⟩) := by
  rw [k0_part1_eq_skeleton]; rfl
theorem part2_eq : k0_part2 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c = firstChunk d w := by
  rw [k0_part2_eq_skeleton]; rfl
theorem part3_eq : k0_part3 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a = secondChunk d w := by
  rw [k0_part3_eq_skeleton]; rfl
theorem part4_eq : k0_part4 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e = middleB d 1 2 1 0 := by
  rw [k0_part4_eq_skeleton]; rfl
theorem part5_eq : k0_part5 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w = middleA d w 0 3 0 1 := by
  rw [k0_part5_eq_skeleton]; rfl
theorem part6_eq : k0_part6 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e = middleB d 2 3 0 1 := by
  rw [k0_part6_eq_skeleton]; rfl
theorem part7_eq : k0_part7 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w = middleA d w 1 4 1 0 := by
  rw [k0_part7_eq_skeleton]; rfl
theorem part8_eq : k0_part8 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e = middleB d 3 4 1 0 := by
  rw [k0_part8_eq_skeleton]; rfl
theorem part9_eq : k0_part9 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w = middleA d w 2 5 0 1 := by
  rw [k0_part9_eq_skeleton]; rfl
theorem part10_eq : k0_part10 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e = middleB d 4 5 0 1 := by
  rw [k0_part10_eq_skeleton]; rfl
theorem part11_eq : k0_part11 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w = middleA d w 3 6 1 0 := by
  rw [k0_part11_eq_skeleton]; rfl
theorem part12_eq : k0_part12 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e = middleB d 5 6 1 0 := by
  rw [k0_part12_eq_skeleton]; rfl
theorem part13_eq : k0_part13 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w = middleA d w 4 7 0 1 := by
  rw [k0_part13_eq_skeleton]; rfl
theorem part14_eq : k0_part14 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e = middleB d 6 7 0 1 := by
  rw [k0_part14_eq_skeleton]; rfl
theorem part15_eq : k0_part15 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b = lastChunk d w ⟨Scalar.addi 0#32 (Scalar.muli b 16#32), Scalar.muli a 4#32⟩ := by
  rw [k0_part15_eq_skeleton]; rfl
theorem part16_eq : k0_part16 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c = lastOut d := by
  rw [k0_part16_eq_skeleton]; rfl
theorem part17_eq : k0_part17 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c = drain d := by
  rw [k0_part17_eq_skeleton]; rfl
theorem part18_eq : k0_part18 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c = (do waitRecv d 1; waitRecv d 2; pure 16#32) := by
  rw [k0_part18_eq_skeleton]; rfl
theorem part19_eq : k0_part19 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e = (do
    waitRecv d 3
    waitRecv d 4
    pure ⟨Scalar.addi (Scalar.addi 0#32 (Scalar.muli c 16#32)) (Scalar.muli a 4#32), Scalar.muli b 1#32⟩) := by
  rw [k0_part19_eq_skeleton]; rfl
theorem part20_eq : k0_part20 (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 d w a b c e f = (do waitRecv d 5; waitRecv d 6) := by
  rw [k0_part20_eq_skeleton]; rfl

/-- The device's place, from 0 to 1, along the traded axis: the word the body computes for it. -/
theorem placeWord_eq (d : Dev nD) : placeWord d = BitVec.ofNat 32 (d.val / 16) := by revert d; decide

/-- What a device does after learning its number `d`. -/
def trade (d : Dev nD) : Step (F := F) PUnit := do
  opening d
  let _ ← firstChunk d (placeWord d)
  let _ ← secondChunk d (placeWord d)
  middleB d 1 2 1 0
  let _ ← middleA d (placeWord d) 0 3 0 1
  middleB d 2 3 0 1
  let _ ← middleA d (placeWord d) 1 4 1 0
  middleB d 3 4 1 0
  let _ ← middleA d (placeWord d) 2 5 0 1
  middleB d 4 5 0 1
  let _ ← middleA d (placeWord d) 3 6 1 0
  middleB d 5 6 1 0
  let _ ← middleA d (placeWord d) 4 7 0 1
  middleB d 6 7 0 1
  lastChunk d (placeWord d) PUnit.unit
  lastOut d
  drain d
  waitRecv d 1
  waitRecv d 2
  waitRecv d 3
  waitRecv d 4
  waitRecv d 5
  waitRecv d 6
  waitRecv d 7

/-- What the last chunk's step returns doesn't matter to it. -/
theorem lastChunk_eq {α : Type} (d : Dev nD) (w : BitVec 32) (r : α) :
    lastChunk (F := F) d w r = lastChunk d w PUnit.unit >>= fun _ => pure r := by
  unfold lastChunk castThen
  split_ifs <;> rfl

/-- The printed body is: learn the device's number, then trade. -/
theorem body_eq : cc0_body (F := F) xM (Memref.isWhole_whole _) yM (Memref.isWhole_whole _) inBuf (Memref.isWhole_whole _) sendBuf (Memref.isWhole_whole _) keepBuf (Memref.isWhole_whole _) cc0_scratch3 cc0_scratch4 cc0_scratch5 cc0_scratch6 = (Prog.lift .deviceId >>= fun d => trade d) := by
  rw [cc0_body_eq_skeleton]; unfold cc0_body_skel trade
  simp only [part1_eq, part2_eq, part3_eq, part4_eq, part5_eq, part6_eq, part7_eq, part8_eq, part9_eq, part10_eq, part11_eq,
    part12_eq, part13_eq, part14_eq, part15_eq, part16_eq, part17_eq, part18_eq, part19_eq, part20_eq, bind_assoc, pure_bind]
  simp only [lastChunk_eq (α := PSigma fun (_ : BitVec 32) => BitVec 32), bind_assoc, pure_bind]
  rfl

end Cert.KernelIdeal.Trade
-- ==== Proof.Protocol.lean ====
/-
The protocol between the devices.

Device `c` trades with `peer c`, the device 16 places away, and nobody else. Each device has one barrier semaphore and,
for each of the eight chunks, a semaphore that counts what it has sent and one that counts what it has received.

* Barrier of `c`: `peer c` signals it once; with the signal it lends `c` the rows of `peer c`'s result that `c` writes.
* Send semaphore `i` of `c`: the sending of chunk `i` credits it once the chunk has left; the send slot comes back.
* Receive semaphore `i` of `c`: the sending of chunk `i` by `peer c` credits it once the chunk has landed; the rows
  come back to `c`, holding the half of `peer c`'s chunk `i` that belongs to `c`.

Nothing is credited twice, so every semaphore has one round.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Who trades with whom -/

/-- The device `c` trades with: the one 16 places away. -/
def peer (c : Dev nD) : Dev nD := ⟨(c.val + 16) % 32, Nat.mod_lt _ (by decide)⟩
theorem peer_peer (c : Dev nD) : peer (peer c) = c := by revert c; decide
theorem peer_ne (c : Dev nD) : peer c ≠ c := by revert c; decide
/-- Trading, as a permutation of the devices. -/
def swap : Dev nD ≃ Dev nD := ⟨peer, peer, peer_peer, peer_peer⟩

/-- Every device the body names is `peer`. -/
theorem barDev_eq (c : Dev nD) : barDev c = peer c := by revert c; decide
theorem tradeDev_eq (c : Dev nD) (i : Fin 8) : tradeDev c i = peer c := by revert c i; decide

/-- The device's place along the traded axis: 0 or 1. -/
abbrev place (c : Dev nD) : ℕ := c.val / 16
theorem place_cases (c : Dev nD) : place c = 0 ∧ place (peer c) = 1 ∨ place c = 1 ∧ place (peer c) = 0 := by revert c; decide

/-- The slot chunk `i` passes through. -/
def slot (i : Fin 8) : Fin 2 := ⟨i.val % 2, Nat.mod_lt _ (by decide)⟩

/-! ## The semaphores -/

/-- The semaphores of the protocol: the barrier, sending chunk `i`, receiving chunk `i`. -/
abbrev Duty : Type := Unit ⊕ (Fin 8 ⊕ Fin 8)
abbrev Duty.bar : Duty := .inl ()
abbrev Duty.send (i : Fin 8) : Duty := .inr (.inl i)
abbrev Duty.recv (i : Fin 8) : Duty := .inr (.inr i)

def dmaOf : Fin 8 ⊕ Fin 8 → DmaSem sig
  | .inl i => sendSem i
  | .inr i => recvSem i
def dsem : Duty → SemLoc sig
  | .inl _ => .reg barSem
  | .inr x => .dma (dmaOf x)

theorem dsem_injective : Function.Injective dsem := by
  have h : ∀ a b, dsem a = dsem b → a = b := by decide
  exact fun a b => h a b

def cell (ck : Dev nD × Duty) : GSem nD τ sig := ((ck.1 : Thread nD τ), dsem ck.2)

theorem cell_injective : Function.Injective cell := by
  rintro ⟨c, k⟩ ⟨c', k'⟩ h
  have h1 : c = c' := congrArg (fun g : GSem nD τ sig => g.1.1) h
  have h2 : k = k' := dsem_injective (congrArg Prod.snd h)
  rw [h1, h2]

/-- What one transferred half of a chunk credits, and one fetched chunk. -/
@[irreducible] def N : ℕ := RefSig.tileCredit S2048x1024 .bf16
@[irreducible] def NIn : ℕ := RefSig.tileCredit S2048x2048 .f32
theorem N_pos : 0 < N := by
  unfold N; exact RefSig.tileCredit_pos _ _ (Finset.prod_induction _ (0 < ·) (fun _ _ ha hb => Nat.mul_pos ha hb) Nat.one_pos fun a _ => by revert a; decide)
theorem NIn_pos : 0 < NIn := by
  unfold NIn; exact RefSig.tileCredit_pos _ _ (Finset.prod_induction _ (0 < ·) (fun _ _ ha hb => Nat.mul_pos ha hb) Nat.one_pos fun a _ => by revert a; decide)
theorem credit_y (c : Dev nD) (i : Fin 8) : (yRows c i).view.dmaCredit = N := by
  unfold N; exact (rfl : RefSig.tileCredit S2048x1024 .bf16 = RefSig.tileCredit S2048x1024 .bf16)
theorem credit_send (s : Fin 2) : (sendSlot s).view.dmaCredit = N := by
  unfold N; exact (rfl : RefSig.tileCredit S2048x1024 .bf16 = RefSig.tileCredit S2048x1024 .bf16)
theorem credit_keep (s : Fin 2) : (keepSlot s).view.dmaCredit = N := by
  unfold N; exact (rfl : RefSig.tileCredit S2048x1024 .bf16 = RefSig.tileCredit S2048x1024 .bf16)
theorem credit_in (s : Fin 2) : (inSlot s).view.dmaCredit = NIn := by
  unfold NIn; exact (rfl : RefSig.tileCredit S2048x2048 .f32 = RefSig.tileCredit S2048x2048 .f32)

/-! ## The resources -/

abbrev UB : Type := Rounds.URounds (GSem nD τ sig) Duty
abbrev UU : Type := UR sig nD τ × (UB × Counters)

local notation "𝕄" => MT nD τ sig Unit (Elt F) ℕ UU ℕ

abbrev EP : Emb (UR sig nD τ) 𝕄 := embL
def ER : Emb UB 𝕄 :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance
abbrev EC : UEmb Counters 𝕄 := countersEmb

variable (m : (ℓ : Loc nD τ sig) → Buf (Elt F) ℓ)

/-! ## The contents -/

/-- Chunk `i` of device `c`'s argument. -/
def chunk (c : Dev nD) (i : Fin 8) : FVec F S2048x2048 .f32 := (xRows i).view.read (Elt F) (m ((c : Thread nD τ).loc main_arg0))

/-- Column half `b` of a chunk, rounded to bf16. -/
def half (b : ℕ) (v : FVec F S2048x2048 .f32) : FVec F S2048x1024 .bf16 :=
  if b = 0 then truncf .bf16 (extractStridedSlice S2048x1024 ![0, 0] v slices_S2048x2048_o0_0_S2048x1024) bitsLt_bf16_f32
  else truncf .bf16 (extractStridedSlice S2048x1024 ![0, 1024] v slices_S2048x2048_o0_1024_S2048x1024) bitsLt_bf16_f32

/-- Device `c`'s share of chunk `i` of device `d`: what the rows of chunk `i` of `d` in `c`'s result must hold. -/
def share (c d : Dev nD) (i : Fin 8) : FVec F S2048x1024 .bf16 := half (place c) (chunk m d i)

/-! ## What each landing hands over -/

/-- Device `c` holds the buffer part `M`, at some contents. -/
def held (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)
/-- Device `c` holds the buffer part `M`, which reads `X`. -/
def holds (c : Dev nD) {sp : Space} {s : Shape} {e : EltTy} (M : Memref sig .tc sp s e) (X : s.Idx → Elt F e) : sProp 𝕄 :=
  iprop(∃ f : Buf (Elt F) (M.view.loc (c : Thread nD τ)), ⌜M.view.read (Elt F) f = X⌝ ∗ (M.view.loc (c : Thread nD τ) ↦[M.view.set]{fullShare} f))

instance held_storable (c : Dev nD) {sp : Space} {s : Shape} {e : EltTy} (M : Memref sig .tc sp s e) :
    BI.Storable (upEmb : UEmb _ 𝕄) (held (F := F) c M) := by unfold held; infer_instance
instance holds_storable (c : Dev nD) {sp : Space} {s : Shape} {e : EltTy} (M : Memref sig .tc sp s e) (X : s.Idx → Elt F e) :
    BI.Storable (upEmb : UEmb _ 𝕄) (holds (F := F) c M X) := by unfold holds; infer_instance

theorem holds_held (c : Dev nD) {sp : Space} {s : Shape} {e : EltTy} (M : Memref sig .tc sp s e) (X : s.Idx → Elt F e) :
    holds (F := F) c M X ⊢ held c M := by
  unfold holds held
  iintro ⟨%f, -, H⟩
  iexists f; iexact H

/-- The rows device `c` writes on `peer c`, lent with the barrier's signal. -/
def lent (c : Dev nD) : sProp 𝕄 := bigSep Finset.univ fun i : Fin 8 => held (F := F) (peer c) (yRows c i)
instance lent_storable (c : Dev nD) : BI.Storable (upEmb : UEmb _ 𝕄) (lent (F := F) c) := by unfold lent; infer_instance

/-- What the landing on device `c`'s semaphore `d` hands over. -/
def pay (c : Dev nD) : Duty → sProp 𝕄
  | .inl _ => lent c
  | .inr (.inl i) => held c (sendSlot (slot i))
  | .inr (.inr i) => holds c (yRows (peer c) i) (share m c (peer c) i)
instance pay_storable (c : Dev nD) (d : Duty) : BI.Storable (upEmb : UEmb _ 𝕄) (pay (F := F) m c d) := by
  rcases d with _ | i | i
  · exact lent_storable c
  · exact held_storable c _
  · exact holds_storable c _ _

def amt : Duty → ℕ
  | .inl _ => 1
  | .inr _ => N

/-- The schedule: each semaphore of the protocol has one duty, in its round 0. -/
def Rd : Rounds.Schedule (GSem nD τ sig) Duty 𝕄 where
  duties g r := if r = 0 ∧ g.1.2 = .tc then Finset.univ.filter (fun d => dsem d = g.2) else ∅
  unitless _ := False
  amount _ _ d := amt d
  payload g _ d := pay m g.1.1 d
  amount_pos g _ d _ := by
    rcases d with _ | d
    · exact Nat.one_pos
    · exact N_pos

instance Rd_storable (g : GSem nD τ sig) (r : ℕ) (d : Duty) : BI.Storable (upEmb : UEmb _ 𝕄) ((Rd (F := F) m).payload g r d) :=
  pay_storable m g.1.1 d

theorem duties_cell (c : Dev nD) (d : Duty) : (Rd (F := F) m).duties (cell (c, d)) 0 = {d} := by
  dsimp only [Rd]
  rw [if_pos ⟨rfl, rfl⟩]
  ext e
  simp only [Finset.mem_filter, Finset.mem_univ, true_and, Finset.mem_singleton]
  exact ⟨fun h => dsem_injective h, fun h => congrArg dsem h⟩
theorem duties_later (g : GSem nD τ sig) : ∀ r, 1 ≤ r → (Rd (F := F) m).duties g r = ∅ :=
  fun r hr => by dsimp only [Rd]; exact if_neg fun h => by omega
theorem mem_duties (c : Dev nD) (d : Duty) : d ∈ (Rd (F := F) m).duties (cell (c, d)) 0 := by
  rw [duties_cell]; exact Finset.mem_singleton_self _
theorem expect_cell (c : Dev nD) (d : Duty) : (Rd (F := F) m).expect (cell (c, d)) 0 = amt d := by
  unfold Schedule.expect Schedule.amountOf
  rw [duties_cell, Finset.sum_singleton]; rfl
theorem rest_cell (c : Dev nD) (d : Duty) :
    bigSep ((Rd (F := F) m).duties (cell (c, d)) 0 \ ∅) (fun u => (Rd (F := F) m).payload (cell (c, d)) 0 u) = pay m c d := by
  rw [Finset.sdiff_empty, duties_cell, bigSep_singleton]; rfl

/-! ## What each device owes, and the order of waiting -/

/-- What device `c` owes `peer c` before it has sent chunk `k`: the landings of chunks `k` to 7. -/
def owed (c : Dev nD) (k : ℕ) : CellTallies nD τ sig Unit :=
  ∑ i ∈ Finset.univ.filter (fun i : Fin 8 => k ≤ i.val), tallyAt (cell (peer c, Duty.recv i)) () N
/-- What device `c` owes at launch: those landings and the barrier's signal. -/
def O₀ (c : Dev nD) : CellTallies nD τ sig Unit := owed c 0 + tallyAt (cell (peer c, Duty.bar)) () 1

theorem owed_succ (c : Dev nD) (i : Fin 8) : owed c i.val = owed c (i.val + 1) + tallyAt (cell (peer c, Duty.recv i)) () N := by
  unfold owed
  rw [show Finset.univ.filter (fun j : Fin 8 => i.val ≤ j.val) = insert i (Finset.univ.filter (fun j : Fin 8 => i.val + 1 ≤ j.val)) by
    revert i; decide]
  rw [Finset.sum_insert (by simp), add_comm]
theorem owed_last (c : Dev nD) : owed c 8 = 0 := by
  unfold owed
  rw [show Finset.univ.filter (fun j : Fin 8 => 8 ≤ j.val) = ∅ by decide]; rfl

theorem owed_pos {c : Dev nD} {k : ℕ} {g : GSem nD τ sig} {u : Unit} (h : 0 < owed c k g u) : ∃ i, g = cell (peer c, Duty.recv i) := by
  unfold owed at h
  rw [Finset.sum_apply, Finsupp.finset_sum_apply] at h
  obtain ⟨i, -, hi⟩ := Finset.exists_ne_zero_of_sum_ne_zero h.ne'
  rw [tallyAt_apply] at hi
  by_contra hn
  rw [if_neg (fun h' => hn ⟨i, h'.1⟩)] at hi
  exact hi rfl

/-- The receive semaphores come after the barrier, the barrier after every other semaphore. -/
def L (g : GSem nD τ sig) : Finset Unit := if g.1.2 = .tc then {()} else ∅
def lv (g : GSem nD τ sig) (_ : Unit) : ℕ :=
  if ∃ i, g.2 = .dma (recvSem i) then 2 else if g.2 = .reg barSem then 1 else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 8) (u : Unit) : lv (cell (c, Duty.recv i)) u = 2 := if_pos ⟨i, rfl⟩

/-- A device that owes only landings may wait on any semaphore that isn't a receive semaphore. -/
theorem mayWait (c : Dev nD) (sm : SemLoc sig) (hs : ∀ i, sm ≠ .dma (recvSem i)) (k : ℕ) :
    (levAts L lv : sProp 𝕄) ⊢ MayWait (c : Thread nD τ) sm () (owed c k) :=
  MayOwe.of_cut (L := L) (lev := lv) 1 (fun p hp => by rw [Finset.mem_singleton.mp hp, L_tc]; exact Finset.mem_singleton_self _)
    (fun g u hg => by obtain ⟨i, rfl⟩ := owed_pos hg; exact Finset.mem_singleton_self _)
    (fun p hp => by
      rw [Finset.mem_singleton.mp hp]; dsimp only [lv]
      rw [if_neg (fun ⟨i, h⟩ => hs i h)]; split <;> decide)
    (fun g u hg => by obtain ⟨i, rfl⟩ := owed_pos hg; rw [lv_recv]; decide)

end Cert.KernelIdeal.Trade
-- ==== Proof.Steps.lean ====
/-
What each named step of the body does to what a device holds.

Each theorem is about one step of `Blocks.lean` on a device `c`, followed by anything: from the resources on the left
the step runs, and goes on with the resources in the wand.
-/
module

public import proofs.«01_k».proof.Proof.Protocol

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Duty → ℕ)

abbrev 𝒱₀ : Variants := Variants.none

/-- Running `p` on device `c`, to end in `Q`. -/
abbrev run {α : Type} (c : Dev nD) (p : Step (F := F) α) (Q : α → sProp 𝕄) : sProp 𝕄 :=
  wp frame (wpE (defs₀ (F := F)) 𝒱₀ (c : Thread nD τ) none) Set.univ p Q

/-! ## What is held throughout -/

/-- Everybody's semaphores follow the protocol, and each is in its first round at least. -/
def invs : sProp 𝕄 :=
  bigSep Finset.univ fun ck : Dev nD × Duty => iprop(cellInv ER (Rd m) (K ck) (cell ck) ∗ reached ER (cell ck) 0)
instance invs_persistent : BI.Persistent (invs (F := F) m K) := by unfold invs; infer_instance

theorem invs_at (ck : Dev nD × Duty) : invs (F := F) m K ⊢ iprop(cellInv ER (Rd m) (K ck) (cell ck) ∗ reached ER (cell ck) 0) :=
  bigSep_elim (Finset.mem_univ ck)

/-- What the device still owes before it has sent chunk `k`. -/
def owing (c : Dev nD) (k : ℕ) : sProp 𝕄 := iprop(∃ W, owes (c : Thread nD τ) (owed c k) W)

/-- The device's argument, whole; the rows of chunk `i`; the other rows. -/
def xAll (c : Dev nD) : sProp 𝕄 := iprop((c : Thread nD τ).loc main_arg0 ↦{fullShare} m ((c : Thread nD τ).loc main_arg0))
def xPart (c : Dev nD) (i : Fin 8) : sProp 𝕄 :=
  iprop((xRows i).view.loc (c : Thread nD τ) ↦[(xRows i).view.set]{fullShare} m ((c : Thread nD τ).loc main_arg0))
def xRest (c : Dev nD) (i : Fin 8) : sProp 𝕄 :=
  iprop((xRows i).view.loc (c : Thread nD τ) ↦[Finset.univ \ (xRows i).view.set]{fullShare} m ((c : Thread nD τ).loc main_arg0))

theorem xAll_split (c : Dev nD) (i : Fin 8) : xAll (F := F) m c ⊢ iprop(xPart m c i ∗ xRest m c i) :=
  (pointsTo_split_subset (Finset.subset_univ _)).1
theorem xAll_join (c : Dev nD) (i : Fin 8) : iprop(xPart (F := F) m c i ∗ xRest m c i) ⊢ xAll m c :=
  (pointsTo_split_subset (Finset.subset_univ _)).2

/-- What has been written all over reads what was written. -/
theorem written_holds (c : Dev nD) {sp : Space} {s : Shape} {e : EltTy} (M : Memref sig .tc sp s e)
    (f : Buf (Elt F) (M.view.loc (c : Thread nD τ))) (X : s.Idx → Elt F e) :
    (M.view.loc (c : Thread nD τ) ↦[M.view.set]{fullShare} (M.view.write (Elt F) f X Finset.univ) : sProp 𝕄) ⊢ holds c M X := by
  unfold holds
  iintro H
  iexists (M.view.write (Elt F) f X Finset.univ)
  isplitr; · ipureintro; exact View.read_write_univ (v := M.view) f X
  iexact H

/-! ## Local copies and waits -/

/-- A local copy, until it is waited for: then the destination reads what the source read, and the source is back. -/
def copying (c : Dev nD) {sp sp' : Space} {s : Shape} {e : EltTy} (M : Memref sig .tc sp s e) (M' : Memref sig .tc sp' s e) (sm : DmaSem sig)
    (n : ℕ) (f : Buf (Elt F) (M.view.loc (c : Thread nD τ))) : sProp 𝕄 :=
  Transfers.Flight EC (c : Thread nD τ) (.dma sm) () n
    iprop(holds c M' (M.view.read (Elt F) f) ∗ (M.view.loc (c : Thread nD τ) ↦[M.view.set]{fullShare} f))

theorem copy_spec (c : Dev nD) {sp sp' : Space} {s : Shape} {e : EltTy} (M : Memref sig .tc sp s e) (M' : Memref sig .tc sp' s e) (sm : DmaSem sig)
    {n : ℕ} (hn : M'.view.dmaCredit = n) (hn0 : 0 < n) (f : Buf (Elt F) (M.view.loc (c : Thread nD τ)))
    {h1 : M.view.WordExact} {h2 : M'.view.WordExact} {h3 : DmaTarget.Typed (nD := nD) (τ := τ) (p := Proc.tc) sp (.dma sm) (.here M')} (Q : PUnit → sProp 𝕄) :
    iprop((M.view.loc (c : Thread nD τ) ↦[M.view.set]{fullShare} f) ∗ held c M' ∗ semVal ((c : Thread nD τ), .dma sm) 0)
      ⊢ iprop((copying c M M' sm n f -∗ Q ⟨⟩) -∗ run c (Prog.lift (.enqueueDma M (.here M') (.dma sm) h1 h2 h3)) Q) := by
  unfold held copying
  simp only [Prog.lift]
  iintro ⟨Hp, ⟨%g, Hd⟩, Hv⟩ Hk
  iapply (Transfers.wp_dmaLocal EC 𝒱₀ (c : Thread nD τ) none (src := M) (dst := M') (sm := .dma sm) () n
    ((View.amount_dma _ _).trans hn) hn0 (Finset.Subset.refl _)) $$ [Hp Hd Hv]
  · isplitl [Hp]; · iexact Hp
    isplitl [Hd] <;> iassumption
  iintro Hf
  rw [wp_ret]; imodintro
  iapply Hk
  iapply (Transfers.Flight_mono EC (c : Thread nD τ) (sep_mono_left (written_holds c M' g (M.view.read (Elt F) f)))) $$ Hf

/-- The wait for a local copy. -/
theorem wait_spec (c : Dev nD) {sp sp' sp₁ sp₂ : Space} {s : Shape} {e : EltTy} {s₁ s₂ : Shape} {e₁ e₂ : EltTy} {M : Memref sig .tc sp s e} {M' : Memref sig .tc sp' s e}
    (M₁ : Memref sig .tc sp₁ s₁ e₁) (M₂ : Memref sig .tc sp₂ s₂ e₂) (sm : DmaSem sig)
    {n : ℕ} (hn : M₂.view.dmaCredit = n) {f : Buf (Elt F) (M.view.loc (c : Thread nD τ))}
    {h1 : M₁.view.WordExact} {h2 : M₂.view.WordExact} (hs : ∀ i, SemLoc.dma sm ≠ .dma (recvSem i)) (k : ℕ) (Q : PUnit → sProp 𝕄) :
    iprop(levAts L lv ∗ copying c M M' sm n f ∗ owing c k)
      ⊢ iprop(((holds c M' (M.view.read (Elt F) f) ∗ (M.view.loc (c : Thread nD τ) ↦[M.view.set]{fullShare} f)
            ∗ semVal ((c : Thread nD τ), .dma sm) 0 ∗ owing c k) -∗ Q ⟨⟩) -∗ run c (Prog.lift (.waitDma2 sm M₁ M₂ h1 h2)) Q) := by
  unfold copying owing
  simp only [Prog.lift]
  iintro ⟨#Hlev, Hf, ⟨%W, HO⟩⟩ Hk
  iapply (Transfers.wp_waitLocalO EC 𝒱₀ (c : Thread nD τ) none () hn) $$ [Hf HO]
  · isplitl [Hf]; · iexact Hf
    isplitl [HO]; · iexact HO
    iapply (mayWait c (.dma sm) hs k); iexact Hlev
  iintro ⟨⟨Hd, Hp⟩, Hv, HO⟩
  rw [wp_ret]; imodintro
  iapply Hk
  isplitl [Hd]; · iexact Hd
  isplitl [Hp]; · iexact Hp
  isplitl [Hv]; · iexact Hv
  iexists _; iexact HO

theorem inSem_ne (s : Fin 2) : ∀ i, SemLoc.dma (inSem s) ≠ SemLoc.dma (recvSem i) := by revert s; decide
theorem keepSem_ne (j : Fin 8) : ∀ i, SemLoc.dma (keepSem j) ≠ SemLoc.dma (recvSem i) := by revert j; decide
theorem sendSem_ne (j : Fin 8) : ∀ i, SemLoc.dma (sendSem j) ≠ SemLoc.dma (recvSem i) := by revert j; decide
theorem barSem_ne : ∀ i, (SemLoc.reg barSem : SemLoc sig) ≠ SemLoc.dma (recvSem i) := fun i h => by cases h

/-! ## Fetching a chunk -/

/-- Chunk `i` is on its way into slot `s`. -/
def fetching (c : Dev nD) (i : Fin 8) (s : Fin 2) : sProp 𝕄 :=
  iprop(copying c (xRows i) (inSlot s) (inSem s) NIn (m ((c : Thread nD τ).loc main_arg0)) ∗ xRest m c i)

theorem copyIn_spec (c : Dev nD) (i : Fin 8) (s : Fin 2) (Q : PUnit → sProp 𝕄) :
    iprop(xAll m c ∗ held c (inSlot s) ∗ semVal ((c : Thread nD τ), .dma (inSem s)) 0)
      ⊢ iprop((fetching m c i s -∗ Q ⟨⟩) -∗ run c (copyIn i s) Q) := by
  unfold copyIn fetching
  iintro ⟨Hx, Hd, Hv⟩ Hk
  ihave Hx' := (xAll_split m c i) $$ Hx
  icases Hx' with ⟨Hp, Hr⟩
  iapply (copy_spec c (xRows i) (inSlot s) (inSem s) (credit_in s) NIn_pos (m ((c : Thread nD τ).loc main_arg0))) $$ [Hp Hd Hv]
  · unfold xPart
    isplitl [Hp]; · iexact Hp
    isplitl [Hd] <;> iassumption
  iintro Hf
  iapply Hk
  isplitl [Hf] <;> iassumption

theorem waitIn_spec (c : Dev nD) (i : Fin 8) (s : Fin 2) (k : ℕ) (Q : PUnit → sProp 𝕄) :
    iprop(levAts L lv ∗ fetching m c i s ∗ owing c k)
      ⊢ iprop(((holds c (inSlot s) (chunk m c i) ∗ xAll m c ∗ semVal ((c : Thread nD τ), .dma (inSem s)) 0 ∗ owing c k) -∗ Q ⟨⟩)
          -∗ run c (waitIn i s) Q) := by
  unfold waitIn fetching
  iintro ⟨#Hlev, ⟨Hf, Hr⟩, HO⟩ Hk
  iapply (wait_spec c (xRows i) (inSlot s) (inSem s) (credit_in s) (inSem_ne s) k) $$ [Hf HO]
  · isplitr; · iexact Hlev
    isplitl [Hf] <;> iassumption
  iintro ⟨Hd, Hp, Hv, HO⟩
  iapply Hk
  isplitl [Hd]; · iexact Hd
  isplitl [Hp Hr]
  · iapply (xAll_join m c i)
    unfold xPart
    isplitl [Hp] <;> iassumption
  isplitl [Hv] <;> iassumption

/-! ## Keeping a half -/

/-- Slot `s`'s half, which is the device's own share of chunk `i`, is on its way into the device's result. -/
def keeping (c : Dev nD) (i : Fin 8) (s : Fin 2) : sProp 𝕄 :=
  iprop(∃ f, ⌜(keepSlot s).view.read (Elt F) f = share m c c i⌝ ∗ copying c (keepSlot s) (yRows c i) (keepSem i) N f)

theorem keepOut_spec (c : Dev nD) (i : Fin 8) (s : Fin 2) (Q : PUnit → sProp 𝕄) :
    iprop(holds c (keepSlot s) (share m c c i) ∗ held c (yRows c i) ∗ semVal ((c : Thread nD τ), .dma (keepSem i)) 0)
      ⊢ iprop((keeping m c i s -∗ Q ⟨⟩) -∗ run c (keepOut c i s) Q) := by
  unfold keepOut keeping holds
  iintro ⟨⟨%f, %hf, Hp⟩, Hd, Hv⟩ Hk
  iapply (copy_spec c (keepSlot s) (yRows c i) (keepSem i) (credit_y c i) N_pos f) $$ [Hp Hd Hv]
  · isplitl [Hp]; · iexact Hp
    isplitl [Hd] <;> iassumption
  iintro Hf
  iapply Hk
  iexists f
  isplitr; · ipureintro; exact hf
  iexact Hf

theorem waitKeep_spec (c : Dev nD) (i : Fin 8) (s : Fin 2) (k : ℕ) (Q : PUnit → sProp 𝕄) :
    iprop(levAts L lv ∗ keeping m c i s ∗ owing c k)
      ⊢ iprop(((holds c (yRows c i) (share m c c i) ∗ held c (keepSlot s) ∗ semVal ((c : Thread nD τ), .dma (keepSem i)) 0 ∗ owing c k) -∗ Q ⟨⟩)
          -∗ run c (waitKeep c i s) Q) := by
  unfold waitKeep keeping
  iintro ⟨#Hlev, ⟨%f, %hf, Hf⟩, HO⟩ Hk
  iapply (wait_spec c (keepSlot s) (yRows c i) (keepSem i) (credit_y c i) (keepSem_ne i) k) $$ [Hf HO]
  · isplitr; · iexact Hlev
    isplitl [Hf] <;> iassumption
  rw [hf]
  iintro ⟨Hd, Hp, Hv, HO⟩
  iapply Hk
  isplitl [Hd]; · iexact Hd
  isplitl [Hp]
  · unfold held; iexists f; iexact Hp
  isplitl [Hv] <;> iassumption

/-! ## Sending a half, and receiving one -/

theorem sendOut_spec (c n : Dev nD) (hn : n = peer c) (i : Fin 8) (s : Fin 2) (hs : s = slot i) (Q : PUnit → sProp 𝕄) :
    iprop(invs m K ∗ holds c (sendSlot s) (share m (peer c) c i) ∗ held (peer c) (yRows c i) ∗ owing c i.val
        ∗ dutyTok ER (cell (c, Duty.send i)) 0 (Duty.send i) ∗ dutyTok ER (cell (peer c, Duty.recv i)) 0 (Duty.recv i))
      ⊢ iprop(((cred (tallyAt (cell (c, Duty.send i)) () N) ∗ owing c (i.val + 1)) -∗ Q ⟨⟩) -∗ run c (sendOut c n i s) Q) := by
  subst hn hs
  unfold sendOut holds owing
  simp only [Prog.lift]
  iintro ⟨#HI, ⟨%f, %hf, Hp⟩, Hd, ⟨%W, HO⟩, Ht, Ht'⟩ Hk
  unfold held
  icases Hd with ⟨%g, Hd⟩
  ihave Hi := (invs_at m K (c, Duty.send i)) $$ HI
  icases Hi with ⟨#Hc, #Hr⟩
  ihave Hi' := (invs_at m K (peer c, Duty.recv i)) $$ HI
  icases Hi' with ⟨#Hc', #Hr'⟩
  have h₁ : ((sendSlot (slot i)).view.loc (c : Thread nD τ) ↦[(sendSlot (slot i)).view.set]{fullShare} f : sProp 𝕄)
      ⊢ (Rd m).payload (cell (c, Duty.send i)) 0 (Duty.send i) := by
    show _ ⊢ held c (sendSlot (slot i))
    unfold held
    iintro H; iexists f; iexact H
  have h₂ : ((yRows c i).view.loc (peer c : Thread nD τ) ↦[(yRows c i).view.set]{fullShare}
        ((yRows c i).view.write (Elt F) g ((sendSlot (slot i)).view.read (Elt F) f) Finset.univ) : sProp 𝕄)
      ⊢ (Rd m).payload (cell (peer c, Duty.recv i)) 0 (Duty.recv i) := by
    show _ ⊢ holds (peer c) (yRows (peer (peer c)) i) (share m (peer c) (peer (peer c)) i)
    rw [peer_peer, hf]
    exact written_holds (peer c) (yRows c i) g _
  iapply (Rounds.wp_send_pointsTo 𝒱₀ ER (Rd m) (c : Thread nD τ) none (κ₁ := K (c, Duty.send i)) (κ₂ := K (peer c, Duty.recv i))
    (c' := (peer c : Thread nD τ)) (src := sendSlot (slot i)) (dst := yRows c i) (sS := .dma (sendSem i)) (sem := .dma (recvSem i))
    (r₁ := 0) (r₂ := 0) (d₁ := Duty.send i) (d₂ := Duty.recv i) (fs := f) (fd := g)
    (mem_duties m c (Duty.send i)) (mem_duties m (peer c) (Duty.recv i))
    () () N ((View.amount_dma _ _).trans (credit_y c i)) rfl rfl (owed c (i.val + 1)) (owed_succ c i) (W := W)
    h₁ h₂) $$ [Hp Hd HO Ht Ht']
  · isplitr; · iexact Hc
    isplitr; · iexact Hc'
    isplitl [Hp]; · iexact Hp
    isplitl [Hd]; · iexact Hd
    isplitl [HO]; · iexact HO
    isplitl [Ht]; · iexact Ht
    isplitr; · iexact Hr
    isplitl [Ht']; · iexact Ht'
    iexact Hr'
  iintro ⟨Hcr, HO⟩
  rw [wp_ret]; imodintro
  iapply Hk
  isplitl [Hcr]; · iexact Hcr
  iexists W; iexact HO

/-- The wait for a landing of the protocol: its payload comes with it. -/
theorem landed_spec (c : Dev nD) (x : Fin 8 ⊕ Fin 8) {sp₁ sp₂ : Space} {s₁ s₂ : Shape} {e₁ e₂ : EltTy}
    (M₁ : Memref sig .tc sp₁ s₁ e₁) (M₂ : Memref sig .tc sp₂ s₂ e₂) (hn : M₂.view.dmaCredit = N)
    {h1 : M₁.view.WordExact} {h2 : M₂.view.WordExact} (O : CellTallies nD τ sig Unit) (Q : PUnit → sProp 𝕄) :
    iprop(invs m K ∗ cred (tallyAt (cell (c, .inr x)) () N) ∗ atPos ER (cell (c, .inr x)) 0 ∅ 0
        ∗ (∃ W, owes (c : Thread nD τ) O W) ∗ MayWait (c : Thread nD τ) (.dma (dmaOf x)) () O)
      ⊢ iprop(((pay m c (.inr x) ∗ atPos ER (cell (c, .inr x)) (0 + 1) ∅ 0 ∗ (∃ W, owes (c : Thread nD τ) O W)) -∗ Q ⟨⟩)
          -∗ run c (Prog.lift (.waitDma2 (dmaOf x) M₁ M₂ h1 h2)) Q) := by
  simp only [Prog.lift]
  iintro ⟨#HI, Hcr, Hat, ⟨%W, HO⟩, Hmw⟩ Hk
  ihave Hi := (invs_at m K (c, .inr x)) $$ HI
  icases Hi with ⟨#Hc, -⟩
  have hw : ∀ K : PUnit → sProp 𝕄, wpE (defs₀ (F := F)) 𝒱₀ (c : Thread nD τ) none Set.univ (.waitDma2 (dmaOf x) M₁ M₂ h1 h2) K
      = waitSpec (c : Thread nD τ) Set.univ (.dma (dmaOf x)) N K := fun K =>
    (wpE_waitDma2_eq 𝒱₀ (c : Thread nD τ) none Set.univ K).trans (by rw [hn])
  iapply (Rounds.wp_wait_rest_token 𝒱₀ ER (Rd m) (c : Thread nD τ) none (κ := K (c, .inr x)) hw
      (Set.mem_univ _) () (O := O) (W := W) (R := 0) (m := 0) (T := ∅)
      ((Nat.zero_add _).trans (expect_cell m c (.inr x)).symm)) $$ [Hcr HO Hat Hmw]
  · isplitr; · iexact Hc
    isplitl [Hcr]; · iexact Hcr
    isplitl [HO]; · iexact HO
    isplitl [Hmw]; · iexact Hmw
    iexact Hat
  iintro ⟨HO, Hat, -, Hpay⟩
  have hr : bigSep ((Rd (F := F) m).duties ((c : Thread nD τ), .dma (dmaOf x)) 0 \ ∅)
      (fun u => (Rd (F := F) m).payload ((c : Thread nD τ), .dma (dmaOf x)) 0 u) = pay m c (.inr x) := rest_cell m c (.inr x)
  ihave Hp := (Entails.of_eq hr) $$ Hpay
  rw [wp_ret]; imodintro
  iapply Hk
  isplitl [Hp]; · iexact Hp
  isplitl [Hat]; · iexact Hat
  iexists _; iexact HO

theorem waitSend_spec (c : Dev nD) (i : Fin 8) (s : Fin 2) (hs : s = slot i) (k : ℕ) (Q : PUnit → sProp 𝕄) :
    iprop(invs m K ∗ levAts L lv ∗ cred (tallyAt (cell (c, Duty.send i)) () N) ∗ atPos ER (cell (c, Duty.send i)) 0 ∅ 0 ∗ owing c k)
      ⊢ iprop(((held c (sendSlot s) ∗ atPos ER (cell (c, Duty.send i)) (0 + 1) ∅ 0 ∗ owing c k) -∗ Q ⟨⟩) -∗ run c (waitSend c i s) Q) := by
  subst hs
  unfold waitSend owing
  iintro ⟨#HI, #Hlev, Hcr, Hat, HO⟩ Hk
  iapply (landed_spec m K c (.inl i) (yRows c i) (sendSlot (slot i)) (credit_send _) (owed c k)) $$ [Hcr HO Hat]
  · isplitr; · iexact HI
    isplitl [Hcr]; · iexact Hcr
    isplitl [Hat]; · iexact Hat
    isplitl [HO]; · iexact HO
    iapply (mayWait c (.dma (sendSem i)) (sendSem_ne i) k); iexact Hlev
  iintro ⟨Hp, Hat, HO⟩
  ihave Hp' := (show pay m c (.inr (.inl i)) ⊢ held c (sendSlot (slot i)) from Entails.rfl) $$ Hp
  iapply Hk
  isplitl [Hp']; · iexact Hp'
  isplitl [Hat] <;> iassumption

theorem waitRecv_spec (c : Dev nD) (i : Fin 8) (Q : PUnit → sProp 𝕄) :
    iprop(invs m K ∗ cred (tallyAt (cell (c, Duty.recv i)) () N) ∗ atPos ER (cell (c, Duty.recv i)) 0 ∅ 0 ∗ owing c 8)
      ⊢ iprop(((holds c (yRows (peer c) i) (share m c (peer c) i) ∗ atPos ER (cell (c, Duty.recv i)) (0 + 1) ∅ 0 ∗ owing c 8) -∗ Q ⟨⟩)
          -∗ run c (waitRecv c i) Q) := by
  unfold waitRecv owing
  rw [owed_last]
  iintro ⟨#HI, Hcr, Hat, HO⟩ Hk
  iapply (landed_spec m K c (.inr i) (sendSlot 0) (yRows c i) (credit_y c i) 0) $$ [Hcr HO Hat]
  · isplitr; · iexact HI
    isplitl [Hcr]; · iexact Hcr
    isplitl [Hat]; · iexact Hat
    isplitl [HO]; · iexact HO
    rw [MayWait_zero]; iempintro
  iintro ⟨Hp, Hat, HO⟩
  ihave Hp' := (show pay m c (.inr (.inr i)) ⊢ holds c (yRows (peer c) i) (share m c (peer c) i) from Entails.rfl) $$ Hp
  iapply Hk
  isplitl [Hp']; · iexact Hp'
  isplitl [Hat] <;> iassumption

end Cert.KernelIdeal.Trade
-- ==== Proof.Cast.lean ====
/-
Rounding a chunk: reading an input slot, storing the half to send and the half to keep.
-/
module

public import proofs.«01_k».proof.Proof.Steps

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem holds_open (c : Dev nD) {sp : Space} {s : Shape} {e : EltTy} (M : Memref sig .tc sp s e) (X : s.Idx → Elt F e) :
    holds (F := F) c M X ⊢ iprop(∃ f : Buf (Elt F) (M.view.loc (c : Thread nD τ)), ⌜M.view.read (Elt F) f = X⌝ ∗ (M.view.loc (c : Thread nD τ) ↦[M.view.set]{fullShare} f)) :=
  .rfl

/-- Slot `s` of a buffer of halves, its leading axis dropped. -/
abbrev slotOf (B : Memref sig .tc .vmem S2x2048x1024 .bf16) (s : Fin 2) : Memref sig .tc .vmem S2048x1024 .bf16 :=
  (B.slice (halfRect s) (fun _ => rfl)).squeeze S2048x1024 squeezes_S1x2048x1024_S2048x1024

theorem set_slotOf (B : Memref sig .tc .vmem S2x2048x1024 .bf16) (s : Fin 2) : (slotOf B s).view.set = (B.view.slice (halfRect s)).set :=
  View.set_reshape _ _

/-- A half stored through a slot is what the slot then reads. -/
theorem read_slotOf_write (B : Memref sig .tc .vmem S2x2048x1024 .bf16) (s : Fin 2) (f : B.view.ty.Contents (Elt F))
    (H : FVec F S2048x1024 .bf16) :
    (slotOf B s).view.read (Elt F) ((B.access (halfRect s)).write (Elt F) f (shapeCast S1x2048x1024 H shapeCasts_S2048x1024_S1x2048x1024) Finset.univ) = H := by
  funext j
  show (B.view.slice (halfRect s)).read (Elt F) _ (Shape.reshapeEquiv _ j) = H j
  rw [show (B.view.slice (halfRect s)).read (Elt F) ((B.access (halfRect s)).write (Elt F) f (shapeCast S1x2048x1024 H shapeCasts_S2048x1024_S1x2048x1024) Finset.univ)
    = shapeCast S1x2048x1024 H shapeCasts_S2048x1024_S1x2048x1024 from View.read_write_univ (v := B.view.slice (halfRect s)) f _]
  show H (Shape.reshapeEquiv _ (Shape.reshapeEquiv _ j)) = H j
  rw [Shape.reshapeEquiv_reshapeEquiv]
  exact congrArg H (by simp)

/-- Storing a half (the stored slot is read first, to no use). -/
theorem store_spec (c : Dev nD) (B : Memref sig .tc .vmem S2x2048x1024 .bf16) (s : Fin 2) (H : FVec F S2048x1024 .bf16)
    {α : Type} (k : Step (F := F) α) {hl : B.view.LoadsAt (halfRect s).toLoadRect} {hs : (B.access (halfRect s)).Stores Finset.univ}
    {hm : (Finset.univ : Finset (halfRect s).shape.Idx) = Finset.univ ∨ ∀ a, (halfRect s).stride a = 1} (Q : α → sProp 𝕄) :
    held c (slotOf B s)
      ⊢ iprop((holds c (slotOf B s) H -∗ run c k Q)
          -∗ run c (Prog.lift (.load B (halfRect s).toLoadRect hl) >>= fun _ =>
              Prog.lift (.store B (halfRect s) (shapeCast S1x2048x1024 H shapeCasts_S2048x1024_S1x2048x1024) Finset.univ hs hm) >>= fun _ => k) Q) := by
  have hset : (slotOf B s).view.set = B.view.setOn (halfRect s).toLoadRect.set := (set_slotOf B s).trans (View.set_slice B.view (halfRect s))
  unfold held
  iintro ⟨%f, Hd⟩ Hk
  iapply (wp_load 𝒱₀ (c : Thread nD τ) none Set.univ (m := B) (r := (halfRect s).toLoadRect) (S := (slotOf B s).view.set) (f := f) hset.ge) $$ Hd
  iintro Hd
  iapply (wp_store 𝒱₀ (c : Thread nD τ) none Set.univ (m := B) (r := halfRect s) (Mk := Finset.univ) (S := (slotOf B s).view.set) (f := f) (set_slotOf B s).ge) $$ Hd
  iintro Hd
  iapply Hk
  unfold holds
  iexists _
  isplitr
  · ipureintro; exact read_slotOf_write B s f H
  · iexact Hd

/-- Rounding a chunk `X`: its halves are in the slots to send and to keep. -/
theorem castThen_spec (c : Dev nD) (s : Fin 2) (X : FVec F S2048x2048 .f32) {α : Type} (k : Step (F := F) α) (Q : α → sProp 𝕄) :
    iprop(holds c (inSlot s) X ∗ held c (sendSlot s) ∗ held c (keepSlot s))
      ⊢ iprop(((held c (inSlot s) ∗ holds c (sendSlot s) (half (place (peer c)) X) ∗ holds c (keepSlot s) (half (place c) X)) -∗ run c k Q)
          -∗ run c (castThen s (placeWord c) k) Q) := by
  have hset : (inSlot s).view.set = inBuf.view.setOn (inRect s).toLoadRect.set :=
    (View.set_reshape _ _).trans (View.set_slice inBuf.view (inRect s))
  have lo : ∀ f : Buf (Elt F) ((inSlot s).view.loc (c : Thread nD τ)), (inSlot s).view.read (Elt F) f = X →
      k0_pay2 (inBuf.view.readAt (Elt F) (inRect s).toLoadRect f) = half 0 X := fun f hf => by
    rw [← hf]; rfl
  have hi : ∀ f : Buf (Elt F) ((inSlot s).view.loc (c : Thread nD τ)), (inSlot s).view.read (Elt F) f = X →
      k0_pay3 (inBuf.view.readAt (Elt F) (inRect s).toLoadRect f) = half 1 X := fun f hf => by
    rw [← hf]; rfl
  unfold castThen
  rw [placeWord_eq]
  rcases place_cases c with ⟨h, h'⟩ | ⟨h, h'⟩
  · have hc : c.val / 16 = 0 := h
    have g0 : Scalar.cmpi .ne (Scalar.extui (Scalar.cmpi .eq (BitVec.ofNat 32 (c.val / 16)) 0#32) : BitVec 32) 0#32 = 1#1 := by
      rw [hc]; decide
    have g1 : Scalar.cmpi .ne (Scalar.extui (Scalar.cmpi .eq (BitVec.ofNat 32 (c.val / 16)) 1#32) : BitVec 32) 0#32 ≠ 1#1 := by
      rw [hc]; decide
    rw [h, h']
    simp only [dif_pos g0, dif_neg g1]
    iintro ⟨Hx, Hs, Hk⟩ Hq
    ihave Hx' := (holds_open c (inSlot s) X) $$ Hx
    icases Hx' with ⟨%f, %hf, Hx⟩
    rw [← lo f hf, ← hi f hf]
    iapply (wp_load 𝒱₀ (c : Thread nD τ) none Set.univ (m := inBuf) (r := (inRect s).toLoadRect) (S := (inSlot s).view.set) (f := f) hset.ge) $$ Hx
    iintro Hx
    iapply (store_spec c sendBuf s (k0_pay3 (inBuf.view.readAt (Elt F) (inRect s).toLoadRect f)) _) $$ Hs
    iintro Hs
    iapply (store_spec c keepBuf s (k0_pay2 (inBuf.view.readAt (Elt F) (inRect s).toLoadRect f)) _) $$ Hk
    iintro Hk
    iapply Hq
    isplitl [Hx]
    · unfold held; iexists f; iexact Hx
    isplitl [Hs]; · iexact Hs
    iexact Hk
  · have hc : c.val / 16 = 1 := h
    have g0 : Scalar.cmpi .ne (Scalar.extui (Scalar.cmpi .eq (BitVec.ofNat 32 (c.val / 16)) 0#32) : BitVec 32) 0#32 ≠ 1#1 := by
      rw [hc]; decide
    have g1 : Scalar.cmpi .ne (Scalar.extui (Scalar.cmpi .eq (BitVec.ofNat 32 (c.val / 16)) 1#32) : BitVec 32) 0#32 = 1#1 := by
      rw [hc]; decide
    rw [h, h']
    simp only [dif_neg g0, dif_pos g1]
    iintro ⟨Hx, Hs, Hk⟩ Hq
    ihave Hx' := (holds_open c (inSlot s) X) $$ Hx
    icases Hx' with ⟨%f, %hf, Hx⟩
    rw [← lo f hf, ← hi f hf]
    iapply (wp_load 𝒱₀ (c : Thread nD τ) none Set.univ (m := inBuf) (r := (inRect s).toLoadRect) (S := (inSlot s).view.set) (f := f) hset.ge) $$ Hx
    iintro Hx
    iapply (store_spec c sendBuf s (k0_pay2 (inBuf.view.readAt (Elt F) (inRect s).toLoadRect f)) _) $$ Hs
    iintro Hs
    iapply (store_spec c keepBuf s (k0_pay3 (inBuf.view.readAt (Elt F) (inRect s).toLoadRect f)) _) $$ Hk
    iintro Hk
    iapply Hq
    isplitl [Hx]
    · unfold held; iexists f; iexact Hx
    isplitl [Hs]; · iexact Hs
    iexact Hk

end Cert.KernelIdeal.Trade
-- ==== Proof.Body.lean ====
/-
The body of one device, from what it is handed at launch to what it holds at the end.

A chunk `j` goes through three states. `State c j s t`: it has arrived in input slot `s`, and slot `t` is free.
`Rounded c j q s t`: it has been rounded, its halves wait in slot `s` of the two buffers of halves, and chunk `q` is on
its way into input slot `t`. `Flying c j s`: both halves are on their way. Then it is `done`.
-/
module

public import proofs.«01_k».proof.Proof.Cast

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Duty → ℕ)

theorem run_bind (c : Dev nD) {α β : Type} (p : Step (F := F) α) (k : α → Step (F := F) β) (Q : β → sProp 𝕄) :
    run c (p >>= k) Q = run c p fun a => run c (k a) Q := wp_bind frame _ Set.univ p k Q
theorem run_pure (c : Dev nD) {α : Type} (a : α) (Q : α → sProp 𝕄) : Q a ⊢ run (F := F) c (pure a) Q := by
  iintro H
  rw [Prog.pure_eq_ret, run, wp_ret]; imodintro
  iexact H

/-! ## The states of a chunk -/

/-- The counters of the semaphores of a device's two input slots and of each kept half are zero. -/
def inZero (c : Dev nD) (s : Fin 2) : sProp 𝕄 := semVal ((c : Thread nD τ), .dma (inSem s)) 0
def keepZero (c : Dev nD) (i : Fin 8) : sProp 𝕄 := semVal ((c : Thread nD τ), .dma (keepSem i)) 0

/-- Device `c`'s buffers of halves, slot `s` of each. -/
def halves (c : Dev nD) (s : Fin 2) : sProp 𝕄 := iprop(held c (sendSlot s) ∗ held c (keepSlot s))

/-- What sending chunk `i` takes, besides its rounded halves: the rights to credit the two semaphores, its own send
    semaphore, and the rows of both results that will be written. -/
def ready (c : Dev nD) (i : Fin 8) : sProp 𝕄 :=
  iprop(dutyTok ER (cell (c, Duty.send i)) 0 (Duty.send i) ∗ dutyTok ER (cell (peer c, Duty.recv i)) 0 (Duty.recv i)
    ∗ atPos ER (cell (c, Duty.send i)) 0 ∅ 0 ∗ keepZero c i ∗ held c (yRows c i) ∗ held (peer c) (yRows c i))

def State (c : Dev nD) (j : Fin 8) (s t : Fin 2) : sProp 𝕄 :=
  iprop(xAll m c ∗ holds c (inSlot s) (chunk m c j) ∗ held c (inSlot t) ∗ inZero c s ∗ inZero c t ∗ owing c j.val)

/-- The rounded halves of chunk `j`, in slot `s`. -/
def rounded (c : Dev nD) (j : Fin 8) (s : Fin 2) : sProp 𝕄 :=
  iprop(holds c (sendSlot s) (share m (peer c) c j) ∗ holds c (keepSlot s) (share m c c j))

def Rounded (c : Dev nD) (j q : Fin 8) (s t : Fin 2) : sProp 𝕄 :=
  iprop(rounded m c j s ∗ fetching m c q t ∗ held c (inSlot s) ∗ inZero c s ∗ owing c j.val)

def Flying (c : Dev nD) (j : Fin 8) (s : Fin 2) : sProp 𝕄 :=
  iprop(cred (tallyAt (cell (c, Duty.send j)) () N) ∗ atPos ER (cell (c, Duty.send j)) 0 ∅ 0 ∗ keeping m c j s)

def done (c : Dev nD) (j : Fin 8) : sProp 𝕄 :=
  iprop(atPos ER (cell (c, Duty.send j)) (0 + 1) ∅ 0 ∗ holds c (yRows c j) (share m c c j) ∗ keepZero c j)

/-! ## Chunk by chunk -/

/-- Rounding chunk `j`, at the states' own names. -/
theorem round_spec (c : Dev nD) (j : Fin 8) (s : Fin 2) {α : Type} (k : Step (F := F) α) (Q : α → sProp 𝕄) :
    iprop(holds c (inSlot s) (chunk m c j) ∗ halves c s)
      ⊢ iprop(((held c (inSlot s) ∗ rounded m c j s) -∗ run c k Q) -∗ run c (castThen s (placeWord c) k) Q) := by
  unfold halves rounded
  exact castThen_spec c s (chunk m c j) k Q

/-- Waiting until both halves of chunk `p` have left slot `s`. -/
theorem land_spec (c : Dev nD) (p : Fin 8) (s : Fin 2) (hs : s = slot p) (n : ℕ) {α : Type} (k : Step (F := F) α) (Q : α → sProp 𝕄) :
    iprop(invs m K ∗ levAts L lv ∗ Flying m c p s ∗ owing c n)
      ⊢ iprop(((done m c p ∗ halves c s ∗ owing c n) -∗ run c k Q)
          -∗ run c (waitSend c p s >>= fun _ => waitKeep c p s >>= fun _ => k) Q) := by
  unfold Flying
  iintro ⟨#HI, #Hlev, ⟨Hcr, Hat, Hk⟩, HO⟩ Hq
  rw [run_bind]
  iapply (waitSend_spec m K c p s hs n) $$ [Hcr Hat HO]
  · isplitr; · iexact HI
    isplitr; · iexact Hlev
    isplitl [Hcr]; · iexact Hcr
    isplitl [Hat]; · iexact Hat
    iexact HO
  iintro ⟨Hs, Hat, HO⟩
  rw [run_bind]
  iapply (waitKeep_spec m c p s n) $$ [Hk HO]
  · isplitr; · iexact Hlev
    isplitl [Hk]; · iexact Hk
    iexact HO
  iintro ⟨Hy, Hk, Hv, HO⟩
  iapply Hq
  unfold done halves keepZero
  isplitl [Hat Hy Hv]
  · isplitl [Hat]; · iexact Hat
    isplitl [Hy]; · iexact Hy
    iexact Hv
  isplitl [Hs Hk]
  · isplitl [Hs]; · iexact Hs
    iexact Hk
  iexact HO

/-- Starting the sending of chunk `j`, and its copy into the device's own result. -/
theorem leave_spec (c : Dev nD) (j : Fin 8) (s : Fin 2) (hs : s = slot j) {α : Type} (k : Step (F := F) α) (Q : α → sProp 𝕄) :
    iprop(invs m K ∗ ready c j ∗ rounded m c j s ∗ owing c j.val)
      ⊢ iprop(((Flying m c j s ∗ owing c (j.val + 1)) -∗ run c k Q)
          -∗ run c (sendOut c (tradeDev c j) j s >>= fun _ => keepOut c j s >>= fun _ => k) Q) := by
  unfold ready rounded
  iintro ⟨#HI, ⟨Ht, Ht', Hat, Hv, Hy, Hy'⟩, ⟨Hs, Hk⟩, HO⟩ Hq
  rw [run_bind]
  iapply (sendOut_spec m K c (tradeDev c j) (tradeDev_eq c j) j s hs) $$ [Ht Ht' Hy' Hs HO]
  · isplitr; · iexact HI
    isplitl [Hs]; · iexact Hs
    isplitl [Hy']; · iexact Hy'
    isplitl [HO]; · iexact HO
    isplitl [Ht]; · iexact Ht
    iexact Ht'
  iintro ⟨Hcr, HO⟩
  rw [run_bind]
  iapply (keepOut_spec m c j s) $$ [Hk Hy Hv]
  · isplitl [Hk]; · iexact Hk
    isplitl [Hy]; · iexact Hy
    unfold keepZero; iexact Hv
  iintro Hk
  iapply Hq
  unfold Flying
  isplitl [Hcr Hat Hk]
  · isplitl [Hcr]; · iexact Hcr
    isplitl [Hat]; · iexact Hat
    iexact Hk
  iexact HO

/-- The first half of a middle chunk `j`. -/
theorem middleA_spec (c : Dev nD) (p j q : Fin 8) (s t : Fin 2) (hs : s = slot p) (Q : BitVec 32 → sProp 𝕄) :
    iprop(invs m K ∗ levAts L lv ∗ Flying m c p s ∗ State m c j s t)
      ⊢ iprop((∀ w, (done m c p ∗ Rounded m c j q s t) -∗ Q w) -∗ run c (middleA c (placeWord c) p q s t) Q) := by
  unfold State middleA
  iintro ⟨#HI, #Hlev, Hf, ⟨Hx, Hin, Hin', Hz, Hz', HO⟩⟩ Hq
  iapply (land_spec m K c p s hs j.val _) $$ [Hf HO]
  · isplitr; · iexact HI
    isplitr; · iexact Hlev
    isplitl [Hf]; · iexact Hf
    iexact HO
  iintro ⟨Hd, Hh, HO⟩
  rw [run_bind]
  iapply (copyIn_spec m c q t) $$ [Hx Hin' Hz']
  · isplitl [Hx]; · iexact Hx
    isplitl [Hin']; · iexact Hin'
    unfold inZero; iexact Hz'
  iintro Hft
  iapply (round_spec m c j s) $$ [Hin Hh]
  · isplitl [Hin]; · iexact Hin
    iexact Hh
  iintro ⟨Hin, Hr⟩
  iapply (run_pure c _ _)
  iapply Hq
  isplitl [Hd]; · iexact Hd
  unfold Rounded
  isplitl [Hr]; · iexact Hr
  isplitl [Hft]; · iexact Hft
  isplitl [Hin]; · iexact Hin
  isplitl [Hz]; · iexact Hz
  iexact HO

/-- The second half. -/
theorem middleB_spec (c : Dev nD) (j q : Fin 8) (s t : Fin 2) (hs : s = slot j) (hq : j.val + 1 = q.val) (Q : PUnit → sProp 𝕄) :
    iprop(invs m K ∗ levAts L lv ∗ Rounded m c j q s t ∗ ready c j)
      ⊢ iprop(((Flying m c j s ∗ State m c q t s) -∗ Q ⟨⟩) -∗ run c (middleB c j q s t) Q) := by
  unfold Rounded middleB
  iintro ⟨#HI, #Hlev, ⟨Hr, Hft, Hin, Hz, HO⟩, Hrd⟩ Hq
  iapply (leave_spec m K c j s hs _) $$ [Hr Hrd HO]
  · isplitr; · iexact HI
    isplitl [Hrd]; · iexact Hrd
    isplitl [Hr]; · iexact Hr
    iexact HO
  rw [hq]
  iintro ⟨Hf, HO⟩
  iapply (waitIn_spec m c q t q.val) $$ [Hft HO]
  · isplitr; · iexact Hlev
    isplitl [Hft]; · iexact Hft
    iexact HO
  iintro ⟨Hin', Hx, Hz', HO⟩
  iapply Hq
  isplitl [Hf]; · iexact Hf
  unfold State inZero
  isplitl [Hx]; · iexact Hx
  isplitl [Hin']; · iexact Hin'
  isplitl [Hin]; · iexact Hin
  isplitl [Hz']; · iexact Hz'
  isplitl [Hz]; · iexact Hz
  iexact HO

/-- A middle chunk `j`, start to end: chunk `p`, two before it, is done, and it flies in turn. -/
theorem middle_spec (c : Dev nD) (p j q : Fin 8) (s t : Fin 2) (hs : s = slot p) (hs' : s = slot j) (hq : j.val + 1 = q.val)
    {α : Type} (k : Step (F := F) α) (Q : α → sProp 𝕄) :
    iprop(invs m K ∗ levAts L lv ∗ Flying m c p s ∗ State m c j s t ∗ ready c j)
      ⊢ iprop(((done m c p ∗ Flying m c j s ∗ State m c q t s) -∗ run c k Q)
          -∗ run c (middleA c (placeWord c) p q s t >>= fun _ => middleB c j q s t >>= fun _ => k) Q) := by
  iintro ⟨#HI, #Hlev, Hf, Hst, Hrd⟩ Hq
  rw [run_bind]
  iapply (middleA_spec m K c p j q s t hs) $$ [Hf Hst]
  · isplitr; · iexact HI
    isplitr; · iexact Hlev
    isplitl [Hf]; · iexact Hf
    iexact Hst
  iintro %w ⟨Hd, Hr⟩
  rw [run_bind]
  iapply (middleB_spec m K c j q s t hs' hq) $$ [Hr Hrd]
  · isplitr; · iexact HI
    isplitr; · iexact Hlev
    isplitl [Hr]; · iexact Hr
    iexact Hrd
  iintro ⟨Hf, Hst⟩
  iapply Hq
  isplitl [Hd]; · iexact Hd
  isplitl [Hf]; · iexact Hf
  iexact Hst

/-! ## The opening -/

/-- What the barrier takes: the right to signal the other device's, the other device's signal, the own barrier. -/
def meeting (c : Dev nD) : sProp 𝕄 :=
  iprop(dutyTok ER (cell (peer c, Duty.bar)) 0 Duty.bar ∗ cred (tallyAt (cell (c, Duty.bar)) () 1) ∗ atPos ER (cell (c, Duty.bar)) 0 ∅ 0)

/-- The opening: the device lends its rows, borrows the other's, and has chunk 0. -/
theorem opening_spec (c : Dev nD) (Q : PUnit → sProp 𝕄) :
    iprop(invs m K ∗ levAts L lv ∗ meeting c ∗ lent (peer c) ∗ xAll m c ∗ held c (inSlot 0) ∗ held c (inSlot 1) ∗ inZero c 0 ∗ inZero c 1
        ∗ (∃ W, owes (c : Thread nD τ) (O₀ c) W))
      ⊢ iprop(((lent c ∗ atPos ER (cell (c, Duty.bar)) (0 + 1) ∅ 0 ∗ State m c 0 0 1) -∗ Q ⟨⟩) -∗ run c (opening c) Q) := by
  unfold meeting opening O₀
  rw [barDev_eq]
  iintro ⟨#HI, #Hlev, ⟨Ht, Hcr, Hat⟩, Hl, Hx, Hin, Hin', Hz, Hz', ⟨%W, HO⟩⟩ Hq
  ihave Hi := (invs_at m K (c, Duty.bar)) $$ HI
  icases Hi with ⟨#Hc, -⟩
  ihave Hi' := (invs_at m K (peer c, Duty.bar)) $$ HI
  icases Hi' with ⟨#Hc', #Hr'⟩
  have h1 : (Rd (F := F) m).amount ((peer c : Thread nD τ), .reg barSem) 0 Duty.bar = (1#32).toInt.toNat := (show (1 : ℕ) = (1#32).toInt.toNat by decide)
  have h2 : lent (peer c) ⊢ (Rd (F := F) m).payload ((peer c : Thread nD τ), .reg barSem) 0 Duty.bar := .rfl
  rw [run_bind]
  simp only [semSignalWord]
  iapply (Rounds.wp_signal 𝒱₀ ER (Rd m) (c : Thread nD τ) none (dst := (peer c : Thread nD τ)) (κ := K (peer c, Duty.bar))
    (d := Duty.bar) (mem_duties m (peer c) Duty.bar) h1 () (owed c 0) rfl) $$ [HO Ht Hl]
  · isplitr; · iexact Hc'
    isplitl [HO]; · iexact HO
    isplitl [Ht]; · iexact Ht
    isplitl [Hl]; · iapply h2; iexact Hl
    iexact Hr'
  iintro HO
  iapply (run_pure c _ _)
  rw [run_bind]
  simp only [semWaitWord]
  iapply (Rounds.wp_wait_rest_token 𝒱₀ ER (Rd m) (c : Thread nD τ) none (κ := K (c, Duty.bar))
      (wpE_semWait_eq 𝒱₀ (c : Thread nD τ) none Set.univ) (Set.mem_univ _) () (O := owed c 0) (W := W) (R := 0) (m := 0) (T := ∅)
      ((Nat.zero_add _).trans (expect_cell m c Duty.bar).symm)) $$ [Hcr HO Hat]
  · isplitr; · iexact Hc
    isplitl [Hcr]; · iexact Hcr
    isplitl [HO]; · iexact HO
    isplitr; · iapply (mayWait c (.reg barSem) barSem_ne 0); iexact Hlev
    iexact Hat
  iintro ⟨HO, Hat, -, Hpay⟩
  have hr : bigSep ((Rd (F := F) m).duties ((c : Thread nD τ), .reg barSem) 0 \ ∅)
      (fun u => (Rd (F := F) m).payload ((c : Thread nD τ), .reg barSem) 0 u) = lent c := rest_cell m c Duty.bar
  ihave Hp := (Entails.of_eq hr) $$ Hpay
  iapply (run_pure c _ _)
  rw [run_bind]
  iapply (copyIn_spec m c 0 0) $$ [Hx Hin Hz]
  · isplitl [Hx]; · iexact Hx
    isplitl [Hin]; · iexact Hin
    unfold inZero; iexact Hz
  iintro Hft
  iapply (waitIn_spec m c 0 0 0) $$ [Hft HO]
  · isplitr; · iexact Hlev
    isplitl [Hft]; · iexact Hft
    unfold owing; iexists _; iexact HO
  iintro ⟨Hin, Hx, Hz, HO⟩
  iapply Hq
  isplitl [Hp]; · iexact Hp
  isplitl [Hat]; · iexact Hat
  unfold State inZero
  isplitl [Hx]; · iexact Hx
  isplitl [Hin]; · iexact Hin
  isplitl [Hin']; · iexact Hin'
  isplitl [Hz]; · iexact Hz
  isplitl [Hz']; · iexact Hz'
  iexact HO

/-- Chunk 0 flies, and chunk 1 is rounded. -/
theorem first_spec (c : Dev nD) {α : Type} (k : Step (F := F) α) (Q : α → sProp 𝕄) :
    iprop(invs m K ∗ levAts L lv ∗ State m c 0 0 1 ∗ halves c 0 ∗ halves c 1 ∗ ready c 0)
      ⊢ iprop(((Flying m c 0 0 ∗ Rounded m c 1 2 1 0) -∗ run c k Q)
          -∗ run c (firstChunk c (placeWord c) >>= fun _ => secondChunk c (placeWord c) >>= fun _ => k) Q) := by
  unfold State firstChunk secondChunk ready
  iintro ⟨#HI, #Hlev, ⟨Hx, Hin, Hin', Hz, Hz', HO⟩, Hh, Hh', ⟨Ht, Ht', Hat, Hv, Hy, Hy'⟩⟩ Hq
  rw [run_bind, run_bind]
  iapply (copyIn_spec m c 1 1) $$ [Hx Hin' Hz']
  · isplitl [Hx]; · iexact Hx
    isplitl [Hin']; · iexact Hin'
    unfold inZero; iexact Hz'
  iintro Hft
  iapply (round_spec m c 0 0) $$ [Hin Hh]
  · isplitl [Hin]; · iexact Hin
    iexact Hh
  unfold rounded
  iintro ⟨Hin, ⟨Hs, Hk⟩⟩
  rw [run_bind]
  iapply (sendOut_spec m K c (tradeDev c 0) (tradeDev_eq c 0) 0 0 rfl) $$ [Ht Ht' Hy' Hs HO]
  · isplitr; · iexact HI
    isplitl [Hs]; · iexact Hs
    isplitl [Hy']; · iexact Hy'
    isplitl [HO]; · iexact HO
    isplitl [Ht]; · iexact Ht
    iexact Ht'
  iintro ⟨Hcr, HO⟩
  iapply (run_pure c _ _)
  rw [run_bind, run_bind]
  iapply (keepOut_spec m c 0 0) $$ [Hk Hy Hv]
  · isplitl [Hk]; · iexact Hk
    isplitl [Hy]; · iexact Hy
    unfold keepZero; iexact Hv
  iintro Hk
  rw [run_bind]
  iapply (waitIn_spec m c 1 1 1) $$ [Hft HO]
  · isplitr; · iexact Hlev
    isplitl [Hft]; · iexact Hft
    iexact HO
  iintro ⟨Hin', Hx, Hz', HO⟩
  rw [run_bind]
  iapply (copyIn_spec m c 2 0) $$ [Hx Hin Hz]
  · isplitl [Hx]; · iexact Hx
    isplitl [Hin]; · iexact Hin
    unfold inZero; iexact Hz
  iintro Hft
  iapply (round_spec m c 1 1) $$ [Hin' Hh']
  · isplitl [Hin']; · iexact Hin'
    iexact Hh'
  iintro ⟨Hin', Hr⟩
  iapply (run_pure c _ _)
  iapply Hq
  unfold Flying Rounded inZero
  isplitl [Hcr Hat Hk]
  · isplitl [Hcr]; · iexact Hcr
    isplitl [Hat]; · iexact Hat
    iexact Hk
  isplitl [Hr]; · iexact Hr
  isplitl [Hft]; · iexact Hft
  isplitl [Hin']; · iexact Hin'
  isplitl [Hz']; · iexact Hz'
  iexact HO

/-! ## The end -/

/-- What waiting for the other device's chunk `i` takes, and what it leaves. -/
def awaited (c : Dev nD) (i : Fin 8) : sProp 𝕄 :=
  iprop(cred (tallyAt (cell (c, Duty.recv i)) () N) ∗ atPos ER (cell (c, Duty.recv i)) 0 ∅ 0)
def got (c : Dev nD) (i : Fin 8) : sProp 𝕄 :=
  iprop(holds c (yRows (peer c) i) (share m c (peer c) i) ∗ atPos ER (cell (c, Duty.recv i)) (0 + 1) ∅ 0)

theorem recv_spec (c : Dev nD) (i : Fin 8) (Q : PUnit → sProp 𝕄) :
    iprop(invs m K ∗ awaited c i ∗ owing c 8)
      ⊢ iprop(((got m c i ∗ owing c 8) -∗ Q ⟨⟩) -∗ run c (waitRecv c i) Q) := by
  unfold awaited got
  iintro ⟨#HI, ⟨Hcr, Hat⟩, HO⟩ Hq
  iapply (waitRecv_spec m K c i) $$ [Hcr Hat HO]
  · isplitr; · iexact HI
    isplitl [Hcr]; · iexact Hcr
    isplitl [Hat]; · iexact Hat
    iexact HO
  iintro ⟨Hy, Hat, HO⟩
  iapply Hq
  isplitr [HO]
  · isplitl [Hy]; · iexact Hy
    iexact Hat
  iexact HO

/-- The last chunk, and what is still flying: chunks 5, 6 and 7 are done, and the other device's chunk 0 is here. -/
theorem last_spec (c : Dev nD) {α : Type} (k : Step (F := F) α) (Q : α → sProp 𝕄) :
    iprop(invs m K ∗ levAts L lv ∗ Flying m c 5 1 ∗ Flying m c 6 0 ∗ State m c 7 1 0 ∗ ready c 7 ∗ awaited c 0)
      ⊢ iprop(((done m c 5 ∗ done m c 6 ∗ done m c 7 ∗ got m c 0 ∗ xAll m c ∗ held c (inSlot 0) ∗ held c (inSlot 1) ∗ inZero c 0 ∗ inZero c 1
            ∗ halves c 0 ∗ halves c 1 ∗ owing c 8) -∗ run c k Q)
          -∗ run c (lastChunk c (placeWord c) PUnit.unit >>= fun _ => lastOut c >>= fun _ => drain c >>= fun _ => k) Q) := by
  unfold State lastChunk lastOut drain
  iintro ⟨#HI, #Hlev, Hf, Hf', ⟨Hx, Hin, Hin', Hz, Hz', HO⟩, Hrd, Haw⟩ Hq
  rw [run_bind]
  iapply (land_spec m K c 5 1 rfl 7 _) $$ [Hf HO]
  · isplitr; · iexact HI
    isplitr; · iexact Hlev
    isplitl [Hf]; · iexact Hf
    iexact HO
  iintro ⟨Hd5, Hh, HO⟩
  iapply (round_spec m c 7 1) $$ [Hin Hh]
  · isplitl [Hin]; · iexact Hin
    iexact Hh
  iintro ⟨Hin, Hr⟩
  iapply (run_pure c _ _)
  simp only [bind_assoc]
  iapply (leave_spec m K c 7 1 rfl _) $$ [Hr Hrd HO]
  · isplitr; · iexact HI
    isplitl [Hrd]; · iexact Hrd
    isplitl [Hr]; · iexact Hr
    iexact HO
  iintro ⟨Hf7, HO⟩
  iapply (land_spec m K c 6 0 rfl 8 _) $$ [Hf' HO]
  · isplitr; · iexact HI
    isplitr; · iexact Hlev
    isplitl [Hf']; · iexact Hf'
    iexact HO
  iintro ⟨Hd6, Hh, HO⟩
  iapply (land_spec m K c 7 1 rfl 8 _) $$ [Hf7 HO]
  · isplitr; · iexact HI
    isplitr; · iexact Hlev
    isplitl [Hf7]; · iexact Hf7
    iexact HO
  iintro ⟨Hd7, Hh', HO⟩
  rw [run_bind]
  iapply (recv_spec m K c 0) $$ [Haw HO]
  · isplitr; · iexact HI
    isplitl [Haw]; · iexact Haw
    iexact HO
  iintro ⟨Hg, HO⟩
  iapply Hq
  isplitl [Hd5]; · iexact Hd5
  isplitl [Hd6]; · iexact Hd6
  isplitl [Hd7]; · iexact Hd7
  isplitl [Hg]; · iexact Hg
  isplitl [Hx]; · iexact Hx
  isplitl [Hin']; · iexact Hin'
  isplitl [Hin]; · iexact Hin
  isplitl [Hz']; · iexact Hz'
  isplitl [Hz]; · iexact Hz
  isplitl [Hh]; · iexact Hh
  isplitl [Hh']; · iexact Hh'
  iexact HO

end Cert.KernelIdeal.Trade
-- ==== Proof.Whole.lean ====
/-
The whole trade of one device.
-/
module

public import proofs.«01_k».proof.Proof.Body

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Duty → ℕ)

/-- Something held for each of the eight chunks. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What sending chunk `i` takes of the device's own: the rights, the send semaphore, the rows of its own result. -/
def unready (c : Dev nD) (i : Fin 8) : sProp 𝕄 :=
  iprop(dutyTok ER (cell (c, Duty.send i)) 0 (Duty.send i) ∗ dutyTok ER (cell (peer c, Duty.recv i)) 0 (Duty.recv i)
    ∗ atPos ER (cell (c, Duty.send i)) 0 ∅ 0 ∗ keepZero c i ∗ held c (yRows c i))

/-- With the rows lent by the other device the chunks are ready. -/
theorem ready_of_lent (c : Dev nD) : iprop((bigSep Finset.univ fun i => unready (F := F) c i) ∗ lent c) ⊢ bigSep Finset.univ fun i => ready c i := by
  unfold lent
  rw [← bigSep_sep']
  have h : ∀ i, iprop(unready (F := F) c i ∗ held (peer c) (yRows c i)) ⊢ ready c i := fun i => by
    unfold unready ready
    iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6
  exact bigSep_mono fun i _ => h i

/-- The device's on-chip buffers, and the counters of the input slots at zero. -/
def slots (c : Dev nD) : sProp 𝕄 :=
  iprop(held c (inSlot 0) ∗ held c (inSlot 1) ∗ inZero c 0 ∗ inZero c 1 ∗ halves c 0 ∗ halves c 1)

/-- What a device is handed, and what it hands back. -/
def before (c : Dev nD) : sProp 𝕄 :=
  iprop(xAll m c ∗ slots c ∗ meeting c ∗ lent (peer c) ∗ (∃ W, owes (c : Thread nD τ) (O₀ c) W)
    ∗ (bigSep Finset.univ fun i => unready c i) ∗ (bigSep Finset.univ fun i => awaited c i))
def after (c : Dev nD) : sProp 𝕄 :=
  iprop(xAll m c ∗ slots c ∗ atPos ER (cell (c, Duty.bar)) (0 + 1) ∅ 0 ∗ (∃ W, owes (c : Thread nD τ) 0 W)
    ∗ (bigSep Finset.univ fun i => done m c i) ∗ (bigSep Finset.univ fun i => got m c i))

theorem trade_spec (c : Dev nD) (Q : PUnit → sProp 𝕄) :
    iprop(invs m K ∗ levAts L lv ∗ before m c) ⊢ iprop((after m c -∗ Q ⟨⟩) -∗ run c (trade c) Q) := by
  unfold before slots trade
  iintro ⟨#HI, #Hlev, Hx, ⟨Hi0, Hi1, Hz0, Hz1, Hh0, Hh1⟩, Hmeet, Hl, HO, Hun, Haw⟩ Hq
  rw [run_bind]
  iapply (opening_spec m K c) $$ [Hx Hi0 Hi1 Hz0 Hz1 Hmeet Hl HO]
  · isplitr; · iexact HI
    isplitr; · iexact Hlev
    isplitl [Hmeet]; · iexact Hmeet
    isplitl [Hl]; · iexact Hl
    isplitl [Hx]; · iexact Hx
    isplitl [Hi0]; · iexact Hi0
    isplitl [Hi1]; · iexact Hi1
    isplitl [Hz0]; · iexact Hz0
    isplitl [Hz1]; · iexact Hz1
    iexact HO
  iintro ⟨Hl, Hbar, Hst⟩
  ihave Hrd := (ready_of_lent c) $$ [Hun Hl]
  · isplitl [Hun]; · iexact Hun
    iexact Hl
  ihave Hrd' := (Entails.of_eq (bigSep_eight fun i => ready (F := F) c i)) $$ Hrd
  ihave Haw' := (Entails.of_eq (bigSep_eight fun i => awaited (F := F) c i)) $$ Haw
  icases Hrd' with ⟨Hr0, Hr1, Hr2, Hr3, Hr4, Hr5, Hr6, Hr7⟩
  icases Haw' with ⟨Ha0, Ha1, Ha2, Ha3, Ha4, Ha5, Ha6, Ha7⟩
  iapply (first_spec m K c _) $$ [Hst Hh0 Hh1 Hr0]
  · isplitr; · iexact HI
    isplitr; · iexact Hlev
    isplitl [Hst]; · iexact Hst
    isplitl [Hh0]; · iexact Hh0
    isplitl [Hh1]; · iexact Hh1
    iexact Hr0
  iintro ⟨Hf0, Hst⟩
  rw [run_bind]
  iapply (middleB_spec m K c 1 2 1 0 rfl rfl) $$ [Hst Hr1]
  · isplitr; · iexact HI
    isplitr; · iexact Hlev
    isplitl [Hst]; · iexact Hst
    iexact Hr1
  iintro ⟨Hf1, Hst⟩
  iapply (middle_spec m K c 0 2 3 0 1 rfl rfl rfl _) $$ [Hf0 Hst Hr2]
  · isplitr; · iexact HI
    isplitr; · iexact Hlev
    isplitl [Hf0]; · iexact Hf0
    isplitl [Hst]; · iexact Hst
    iexact Hr2
  iintro ⟨Hd0, Hf2, Hst⟩
  iapply (middle_spec m K c 1 3 4 1 0 rfl rfl rfl _) $$ [Hf1 Hst Hr3]
  · isplitr; · iexact HI
    isplitr; · iexact Hlev
    isplitl [Hf1]; · iexact Hf1
    isplitl [Hst]; · iexact Hst
    iexact Hr3
  iintro ⟨Hd1, Hf3, Hst⟩
  iapply (middle_spec m K c 2 4 5 0 1 rfl rfl rfl _) $$ [Hf2 Hst Hr4]
  · isplitr; · iexact HI
    isplitr; · iexact Hlev
    isplitl [Hf2]; · iexact Hf2
    isplitl [Hst]; · iexact Hst
    iexact Hr4
  iintro ⟨Hd2, Hf4, Hst⟩
  iapply (middle_spec m K c 3 5 6 1 0 rfl rfl rfl _) $$ [Hf3 Hst Hr5]
  · isplitr; · iexact HI
    isplitr; · iexact Hlev
    isplitl [Hf3]; · iexact Hf3
    isplitl [Hst]; · iexact Hst
    iexact Hr5
  iintro ⟨Hd3, Hf5, Hst⟩
  iapply (middle_spec m K c 4 6 7 0 1 rfl rfl rfl _) $$ [Hf4 Hst Hr6]
  · isplitr; · iexact HI
    isplitr; · iexact Hlev
    isplitl [Hf4]; · iexact Hf4
    isplitl [Hst]; · iexact Hst
    iexact Hr6
  iintro ⟨Hd4, Hf6, Hst⟩
  iapply (last_spec m K c _) $$ [Hf5 Hf6 Hst Hr7 Ha0]
  · isplitr; · iexact HI
    isplitr; · iexact Hlev
    isplitl [Hf5]; · iexact Hf5
    isplitl [Hf6]; · iexact Hf6
    isplitl [Hst]; · iexact Hst
    isplitl [Hr7]; · iexact Hr7
    iexact Ha0
  iintro ⟨Hd5, Hd6, Hd7, Hg0, Hx, Hi0, Hi1, Hz0, Hz1, Hh0, Hh1, HO⟩
  rw [run_bind]
  iapply (recv_spec m K c 1) $$ [Ha1 HO]
  · isplitr; · iexact HI
    isplitl [Ha1]; · iexact Ha1
    iexact HO
  iintro ⟨Hg1, HO⟩
  rw [run_bind]
  iapply (recv_spec m K c 2) $$ [Ha2 HO]
  · isplitr; · iexact HI
    isplitl [Ha2]; · iexact Ha2
    iexact HO
  iintro ⟨Hg2, HO⟩
  rw [run_bind]
  iapply (recv_spec m K c 3) $$ [Ha3 HO]
  · isplitr; · iexact HI
    isplitl [Ha3]; · iexact Ha3
    iexact HO
  iintro ⟨Hg3, HO⟩
  rw [run_bind]
  iapply (recv_spec m K c 4) $$ [Ha4 HO]
  · isplitr; · iexact HI
    isplitl [Ha4]; · iexact Ha4
    iexact HO
  iintro ⟨Hg4, HO⟩
  rw [run_bind]
  iapply (recv_spec m K c 5) $$ [Ha5 HO]
  · isplitr; · iexact HI
    isplitl [Ha5]; · iexact Ha5
    iexact HO
  iintro ⟨Hg5, HO⟩
  rw [run_bind]
  iapply (recv_spec m K c 6) $$ [Ha6 HO]
  · isplitr; · iexact HI
    isplitl [Ha6]; · iexact Ha6
    iexact HO
  iintro ⟨Hg6, HO⟩
  iapply (recv_spec m K c 7) $$ [Ha7 HO]
  · isplitr; · iexact HI
    isplitl [Ha7]; · iexact Ha7
    iexact HO
  iintro ⟨Hg7, HO⟩
  iapply Hq
  unfold after slots
  isplitl [Hx]; · iexact Hx
  isplitl [Hi0 Hi1 Hz0 Hz1 Hh0 Hh1]
  · isplitl [Hi0]; · iexact Hi0
    isplitl [Hi1]; · iexact Hi1
    isplitl [Hz0]; · iexact Hz0
    isplitl [Hz1]; · iexact Hz1
    isplitl [Hh0]; · iexact Hh0
    iexact Hh1
  isplitl [Hbar]; · iexact Hbar
  isplitl [HO]
  · unfold owing; rw [owed_last]; iexact HO
  isplitl [Hd0 Hd1 Hd2 Hd3 Hd4 Hd5 Hd6 Hd7]
  · iapply (Entails.of_eq (bigSep_eight fun i => done m c i).symm)
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iapply (Entails.of_eq (bigSep_eight fun i => got m c i).symm)
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  iexact Hg7

end Cert.KernelIdeal.Trade
-- ==== Proof.Parts.lean ====
/-
The parts of the buffers.

Each on-chip buffer is its two slots. A result is sixteen parts: the rows of the device's own eight chunks and of the
other device's eight. When every part reads its share, the result is `result`.
-/
module

public import proofs.«01_k».proof.Proof.Whole

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Two slots -/

/-- A buffer whose indices are those of two parts is held when the two parts are. -/
theorem two_split {ℓ : Loc nD τ sig} {A B : Finset ℓ.ty.Idx} (hd : Disjoint A B) (hu : A ∪ B = Finset.univ) :
    (iprop(∃ f, ℓ ↦{fullShare} f) : sProp 𝕄) ⊢ iprop((∃ f, ℓ ↦[A]{fullShare} f) ∗ (∃ f, ℓ ↦[B]{fullShare} f)) := by
  iintro ⟨%f, H⟩
  ihave H' := (show (iprop(ℓ ↦{fullShare} f) : sProp 𝕄) ⊢ iprop((ℓ ↦[A]{fullShare} f) ∗ (ℓ ↦[B]{fullShare} f)) from by
    rw [← hu]; exact (pointsTo_union hd).1) $$ H
  icases H' with ⟨HA, HB⟩
  isplitl [HA]
  · iexists f; iexact HA
  · iexists f; iexact HB
theorem two_join {ℓ : Loc nD τ sig} {A B : Finset ℓ.ty.Idx} (hd : Disjoint A B) (hu : A ∪ B = Finset.univ) :
    iprop((∃ f, ℓ ↦[A]{fullShare} f) ∗ (∃ f, ℓ ↦[B]{fullShare} f)) ⊢ (iprop(∃ f, ℓ ↦{fullShare} f) : sProp 𝕄) := by
  iintro ⟨⟨%f, HA⟩, %g, HB⟩
  iexists (B.piecewise g f)
  iapply (show iprop((ℓ ↦[A]{fullShare} f) ∗ (ℓ ↦[B]{fullShare} g)) ⊢ (iprop(ℓ ↦{fullShare} (B.piecewise g f)) : sProp 𝕄) from by
    rw [← hu]; exact pointsTo_join hd)
  isplitl [HA]; · iexact HA
  iexact HB

theorem mem_inRect (s : Fin 2) (j : S2x2048x2048.Idx) : Iff (j ∈ (inRect s).set) ((j 0).val = s.val) := by
  refine Rect.mem_set_unit.trans ⟨fun h => ?_, fun h a => ?_⟩
  · have h0 := h 0
    have h1 : s.val ≤ (j 0).val := h0.1
    have h2 : (j 0).val < s.val + 1 := h0.2
    omega
  · fin_cases a
    · exact ⟨h.ge, show (j 0).val < s.val + 1 by omega⟩
    · exact ⟨Nat.zero_le _, show (j 1).val < 0 + 2048 by have : (j 1).val < 2048 := (j 1).isLt; omega⟩
    · exact ⟨Nat.zero_le _, show (j 2).val < 0 + 2048 by have : (j 2).val < 2048 := (j 2).isLt; omega⟩
theorem mem_halfRect (s : Fin 2) (j : S2x2048x1024.Idx) : Iff (j ∈ (halfRect s).set) ((j 0).val = s.val) := by
  refine Rect.mem_set_unit.trans ⟨fun h => ?_, fun h a => ?_⟩
  · have h0 := h 0
    have h1 : s.val ≤ (j 0).val := h0.1
    have h2 : (j 0).val < s.val + 1 := h0.2
    omega
  · fin_cases a
    · exact ⟨h.ge, show (j 0).val < s.val + 1 by omega⟩
    · exact ⟨Nat.zero_le _, show (j 1).val < 0 + 2048 by have : (j 1).val < 2048 := (j 1).isLt; omega⟩
    · exact ⟨Nat.zero_le _, show (j 2).val < 0 + 1024 by have : (j 2).val < 1024 := (j 2).isLt; omega⟩

theorem set_inSlot (s : Fin 2) : (inSlot s).view.set = (inRect s).set := (View.set_reshape _ _).trans (View.set_slice_whole _ _)
theorem set_sendSlot (s : Fin 2) : (sendSlot s).view.set = (halfRect s).set := (View.set_reshape _ _).trans (View.set_slice_whole _ _)
theorem set_keepSlot (s : Fin 2) : (keepSlot s).view.set = (halfRect s).set := (View.set_reshape _ _).trans (View.set_slice_whole _ _)

theorem in_disjoint : Disjoint (inRect 0).set (inRect 1).set :=
  Finset.disjoint_left.mpr fun j h h' => by
    have h0 := (mem_inRect 0 j).mp h
    have h1 := (mem_inRect 1 j).mp h'
    exact absurd (h0.symm.trans h1) (by decide)
theorem half_disjoint : Disjoint (halfRect 0).set (halfRect 1).set :=
  Finset.disjoint_left.mpr fun j h h' => by
    have h0 := (mem_halfRect 0 j).mp h
    have h1 := (mem_halfRect 1 j).mp h'
    exact absurd (h0.symm.trans h1) (by decide)
theorem in_union : (inRect 0).set ∪ (inRect 1).set = Finset.univ :=
  Finset.eq_univ_iff_forall.mpr fun j => Finset.mem_union.mpr (by
    have h : (j 0).val < 2 := (j 0).isLt
    rcases (show (j 0).val = 0 ∨ (j 0).val = 1 by omega) with h0 | h1
    · exact Or.inl ((mem_inRect 0 j).mpr h0)
    · exact Or.inr ((mem_inRect 1 j).mpr h1))
theorem half_union : (halfRect 0).set ∪ (halfRect 1).set = Finset.univ :=
  Finset.eq_univ_iff_forall.mpr fun j => Finset.mem_union.mpr (by
    have h : (j 0).val < 2 := (j 0).isLt
    rcases (show (j 0).val = 0 ∨ (j 0).val = 1 by omega) with h0 | h1
    · exact Or.inl ((mem_halfRect 0 j).mpr h0)
    · exact Or.inr ((mem_halfRect 1 j).mpr h1))

/-- The three on-chip buffers, at some contents. -/
def chips (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))
/-- The same, slot by slot. -/
def chipSlots (c : Dev nD) : sProp 𝕄 :=
  iprop(held (F := F) c (inSlot 0) ∗ held (F := F) c (inSlot 1) ∗ halves (F := F) c 0 ∗ halves (F := F) c 1)

theorem in_split (c : Dev nD) : (iprop(∃ f, (c : Thread nD τ).loc cc0_scratch0 ↦{fullShare} f) : sProp 𝕄)
    ⊢ iprop(held (F := F) c (inSlot 0) ∗ held (F := F) c (inSlot 1)) := by
  unfold held; rw [set_inSlot, set_inSlot]; exact two_split in_disjoint in_union
theorem in_join (c : Dev nD) : iprop(held (F := F) c (inSlot 0) ∗ held (F := F) c (inSlot 1))
    ⊢ (iprop(∃ f, (c : Thread nD τ).loc cc0_scratch0 ↦{fullShare} f) : sProp 𝕄) := by
  unfold held; rw [set_inSlot, set_inSlot]; exact two_join in_disjoint in_union
theorem send_split (c : Dev nD) : (iprop(∃ f, (c : Thread nD τ).loc cc0_scratch1 ↦{fullShare} f) : sProp 𝕄)
    ⊢ iprop(held (F := F) c (sendSlot 0) ∗ held (F := F) c (sendSlot 1)) := by
  unfold held; rw [set_sendSlot, set_sendSlot]; exact two_split half_disjoint half_union
theorem send_join (c : Dev nD) : iprop(held (F := F) c (sendSlot 0) ∗ held (F := F) c (sendSlot 1))
    ⊢ (iprop(∃ f, (c : Thread nD τ).loc cc0_scratch1 ↦{fullShare} f) : sProp 𝕄) := by
  unfold held; rw [set_sendSlot, set_sendSlot]; exact two_join half_disjoint half_union
theorem keep_split (c : Dev nD) : (iprop(∃ f, (c : Thread nD τ).loc cc0_scratch2 ↦{fullShare} f) : sProp 𝕄)
    ⊢ iprop(held (F := F) c (keepSlot 0) ∗ held (F := F) c (keepSlot 1)) := by
  unfold held; rw [set_keepSlot, set_keepSlot]; exact two_split half_disjoint half_union
theorem keep_join (c : Dev nD) : iprop(held (F := F) c (keepSlot 0) ∗ held (F := F) c (keepSlot 1))
    ⊢ (iprop(∃ f, (c : Thread nD τ).loc cc0_scratch2 ↦{fullShare} f) : sProp 𝕄) := by
  unfold held; rw [set_keepSlot, set_keepSlot]; exact two_join half_disjoint half_union

theorem chips_split (c : Dev nD) : chips (F := F) c ⊢ chipSlots c := by
  unfold chips chipSlots halves
  iintro ⟨H0, H1, H2⟩
  ihave H0 := (in_split c) $$ H0
  ihave H1 := (send_split c) $$ H1
  ihave H2 := (keep_split c) $$ H2
  icases H0 with ⟨A0, A1⟩
  icases H1 with ⟨B0, B1⟩
  icases H2 with ⟨C0, C1⟩
  isplitl [A0]; · iexact A0
  isplitl [A1]; · iexact A1
  isplitl [B0 C0]
  · isplitl [B0]; · iexact B0
    iexact C0
  · isplitl [B1]; · iexact B1
    iexact C1
theorem chips_join (c : Dev nD) : chipSlots (F := F) c ⊢ chips c := by
  unfold chips chipSlots halves
  iintro ⟨A0, A1, ⟨B0, C0⟩, B1, C1⟩
  isplitl [A0 A1]
  · iapply (in_join c)
    isplitl [A0]; · iexact A0
    iexact A1
  isplitl [B0 B1]
  · iapply (send_join c)
    isplitl [B0]; · iexact B0
    iexact B1
  · iapply (keep_join c)
    isplitl [C0]; · iexact C0
    iexact C1

/-! ## Sixteen parts of a result -/

theorem off_y (d : Dev nD) (i : Fin 8) : k0_off1 d (BitVec.ofNat 32 (2048 * i.val)) = ![16384 * (d.val / 16) + 2048 * i.val, 0] := by
  revert d i; decide

theorem mem_yRows (d : Dev nD) (i : Fin 8) (j : S32768x1024.Idx) :
    Iff (j ∈ (yRows d i).view.set)
      (16384 * (d.val / 16) + 2048 * i.val ≤ (j 0).val ∧ (j 0).val < 16384 * (d.val / 16) + 2048 * i.val + 2048) := by
  have hs : (yRows d i).view.set = (Rect.unit (s := S32768x1024) (k0_off1 d (BitVec.ofNat 32 (2048 * i.val))) S2048x1024.size (k0_off1_inb d i)).set :=
    View.set_slice_whole _ _
  have h0 : k0_off1 d (BitVec.ofNat 32 (2048 * i.val)) 0 = 16384 * (d.val / 16) + 2048 * i.val := by rw [off_y]; rfl
  have h1 : k0_off1 d (BitVec.ofNat 32 (2048 * i.val)) 1 = 0 := by rw [off_y]; rfl
  rw [hs]
  refine Rect.mem_set_unit.trans ⟨fun h => ?_, fun h a => ?_⟩
  · have hr := h 0
    rw [h0] at hr
    exact hr
  · fin_cases a
    · exact ⟨h0.trans_le h.1, h.2.trans_eq (congrArg (· + 2048) h0.symm)⟩
    · exact ⟨h1.trans_le (Nat.zero_le _), (show (j 1).val < 1024 from (j 1).isLt).trans_eq ((Nat.zero_add 1024).symm.trans (congrArg (· + 1024) h1.symm))⟩

/-- The device itself, and the one it trades with. -/
def who (c : Dev nD) (b : Fin 2) : Dev nD := if b = 0 then c else peer c

theorem who_place (c : Dev nD) (b b' : Fin 2) (h : (who c b).val / 16 = (who c b').val / 16) : b = b' := by
  revert c b b'; decide
theorem who_onto (c : Dev nD) (p : Fin 2) : ∃ b, (who c b).val / 16 = p.val := by
  revert c p; decide

theorem y_disjoint (c : Dev nD) (t t' : Fin 2 × Fin 8) (h : t ≠ t') :
    Disjoint (yRows (who c t.1) t.2).view.set (yRows (who c t'.1) t'.2).view.set :=
  Finset.disjoint_left.mpr fun j hj hj' => h (by
    have h1 := (mem_yRows _ _ j).mp hj
    have h2 := (mem_yRows _ _ j).mp hj'
    obtain ⟨b, i⟩ := t
    obtain ⟨b', i'⟩ := t'
    have hi := i.isLt
    have hi' := i'.isLt
    have hb : b = b' := who_place c b b' (by simp only at h1 h2; omega)
    subst hb
    have : i = i' := Fin.ext (by simp only at h1 h2; omega)
    subst this; rfl)

theorem y_cover (c : Dev nD) : (Finset.univ : Finset (Fin 2 × Fin 8)).biUnion (β := S32768x1024.Idx) (fun t => (yRows (who c t.1) t.2).view.set) = Finset.univ :=
  Finset.eq_univ_iff_forall.mpr fun j => by
    have hj : (j 0).val < 32768 := (j 0).isLt
    obtain ⟨b, hb⟩ := who_onto c ⟨(j 0).val / 16384, by omega⟩
    refine Finset.mem_biUnion.mpr ⟨(b, ⟨(j 0).val % 16384 / 2048, by omega⟩), Finset.mem_univ _, (mem_yRows _ _ j).mpr ?_⟩
    simp only at hb ⊢
    omega

/-- A result, whole, is its sixteen parts. -/
theorem y_parts (c : Dev nD) (f : Buf (Elt F) ((c : Thread nD τ).loc main_v1)) :
    (iprop((c : Thread nD τ).loc main_v1 ↦{fullShare} f) : sProp 𝕄)
      = iprop((bigSep Finset.univ fun i : Fin 8 => (c : Thread nD τ).loc main_v1 ↦[(yRows c i).view.set]{fullShare} f)
        ∗ (bigSep Finset.univ fun i : Fin 8 => (c : Thread nD τ).loc main_v1 ↦[(yRows (peer c) i).view.set]{fullShare} f)) := by
  have h := pointsTo_biUnion (ℓ := (c : Thread nD τ).loc main_v1) (q := fullShare) (f := f) (Ix := Unit) (Name := ℕ) (U := UU) (Lvl := ℕ)
    (Finset.univ : Finset (Fin 2 × Fin 8)) (fun t => (yRows (who c t.1) t.2).view.set) (fun t _ t' _ h => y_disjoint c t t' h)
  refine (show (iprop((c : Thread nD τ).loc main_v1 ↦{fullShare} f) : sProp 𝕄) = _ from
    congrArg (fun S : Finset S32768x1024.Idx => (iprop((c : Thread nD τ).loc main_v1 ↦[S]{fullShare} f) : sProp 𝕄)) (y_cover c).symm).trans (h.trans ?_)
  rw [bigSep_univ_prod, bigSep_fin_two]
  rfl

/-- A result, at any contents, gives the rows the device writes itself and those it lends. -/
theorem y_split (c : Dev nD) (f : Buf (Elt F) ((c : Thread nD τ).loc main_v1)) :
    (iprop((c : Thread nD τ).loc main_v1 ↦{fullShare} f) : sProp 𝕄)
      ⊢ iprop((bigSep Finset.univ fun i : Fin 8 => held (F := F) c (yRows c i)) ∗ lent (F := F) (peer c)) := by
  have h : ∀ (d : Dev nD) (i : Fin 8), (iprop((c : Thread nD τ).loc main_v1 ↦[(yRows d i).view.set]{fullShare} f) : sProp 𝕄) ⊢ held c (yRows d i) := fun d i => by
    unfold held; iintro H; iexists f; iexact H
  rw [y_parts]
  unfold lent
  rw [peer_peer]
  exact BIClass.sep_mono (bigSep_mono fun i _ => h c i) (bigSep_mono fun i _ => h (peer c) i)

/-! ## The result -/

/-- Where row-column `j` of a result lies within its chunk. -/
def within (j : S32768x1024.Idx) : S2048x1024.Idx := fun a => match a with
  | ⟨0, _⟩ => ⟨(j 0).val % 2048, Nat.mod_lt _ (by decide)⟩
  | ⟨1, _⟩ => ⟨(j 1).val, (j 1).isLt⟩

/-- The device whose rows hold `j`: of the two that trade, the one placed there. -/
def owner (c : Dev nD) (j : S32768x1024.Idx) : Dev nD := if (j 0).val / 16384 = place c then c else peer c
/-- The chunk that holds `j`. -/
def chunkOf (j : S32768x1024.Idx) : Fin 8 := ⟨(j 0).val % 16384 / 2048, Nat.div_lt_of_lt_mul (Nat.mod_lt _ (by decide))⟩

/-- What the trade leaves in device `c`'s result. -/
def result (c : Dev nD) : S32768x1024.Idx → Elt F .bf16 := fun j => share m c (owner c j) (chunkOf j) (within j)

theorem place_ne : ∀ c : Dev nD, (peer c).val / 16 ≠ c.val / 16 := by decide

theorem owner_at (c d : Dev nD) (hd : d = c ∨ d = peer c) (j : S32768x1024.Idx) (h : (j 0).val / 16384 = d.val / 16) : owner c j = d := by
  unfold owner
  rw [h]
  rcases hd with rfl | rfl
  · exact if_pos rfl
  · refine if_neg fun h' => ?_
    exact place_ne c h'

theorem read_result (c d : Dev nD) (hd : d = c ∨ d = peer c) (i : Fin 8) :
    (yRows d i).view.read (Elt F) (result m c : Buf (Elt F) ((yRows d i).view.loc (c : Thread nD τ))) = share m c d i := by
  funext p
  have h0 : k0_off1 d (BitVec.ofNat 32 (2048 * i.val)) 0 = 16384 * (d.val / 16) + 2048 * i.val := by rw [off_y]; rfl
  have h1 : k0_off1 d (BitVec.ofNat 32 (2048 * i.val)) 1 = 0 := by rw [off_y]; rfl
  have e0 : (((yRows d i).view.emb p) 0).val = 16384 * (d.val / 16) + 2048 * i.val + (p 0).val := by
    show k0_off1 d (BitVec.ofNat 32 (2048 * i.val)) 0 + 1 * (p 0).val = _
    rw [h0]; omega
  have e1 : (((yRows d i).view.emb p) 1).val = (p 1).val := by
    show k0_off1 d (BitVec.ofNat 32 (2048 * i.val)) 1 + 1 * (p 1).val = _
    rw [h1]; omega
  have hp : (p 0).val < 2048 := (p 0).isLt
  have hi := i.isLt
  show share m c (owner c ((yRows d i).view.emb p)) (chunkOf ((yRows d i).view.emb p)) (within ((yRows d i).view.emb p)) = share m c d i p
  have ho : owner c ((yRows d i).view.emb p) = d := owner_at c d hd _ (by rw [e0]; omega)
  have hc : chunkOf ((yRows d i).view.emb p) = i := Fin.ext (by unfold chunkOf; simp only; rw [e0]; omega)
  have hw : within ((yRows d i).view.emb p) = p := by
    funext a
    match a with
    | ⟨0, _⟩ => exact Fin.ext (show (((yRows d i).view.emb p) 0).val % 2048 = (p 0).val by rw [e0]; omega)
    | ⟨1, _⟩ => exact Fin.ext e1
  rw [ho, hc, hw]

/-- Contents that read alike agree on what is read. -/
theorem agree_of_read {sp : Space} {s : Shape} {e : EltTy} (v : View sig .tc sp s e) {f g : v.ty.Contents (Elt F)}
    (h : v.read (Elt F) f = v.read (Elt F) g) : ∀ i ∈ v.set, f i = g i := fun i hi => by
  obtain ⟨x, -, rfl⟩ := Finset.mem_map.mp hi
  have hx := congrFun h x
  rw [View.read_apply, View.read_apply] at hx
  exact (cast_inj _).mp hx

theorem holds_result (c d : Dev nD) (hd : d = c ∨ d = peer c) (i : Fin 8) :
    holds (F := F) c (yRows d i) (share m c d i) ⊢ (iprop((c : Thread nD τ).loc main_v1 ↦[(yRows d i).view.set]{fullShare} (result m c)) : sProp 𝕄) := by
  unfold holds
  iintro ⟨%f, %hf, H⟩
  have h : ∀ j ∈ (yRows d i).view.set, f j = (result m c : Buf (Elt F) ((yRows d i).view.loc (c : Thread nD τ))) j :=
    agree_of_read (yRows d i).view (hf.trans (read_result m c d hd i).symm)
  iapply (Entails.of_eq (pointsTo_congr h)) $$ H

/-- The sixteen parts, each reading its share, are the result. -/
theorem y_join (c : Dev nD) :
    iprop((bigSep Finset.univ fun i : Fin 8 => holds (F := F) c (yRows c i) (share m c c i))
        ∗ (bigSep Finset.univ fun i : Fin 8 => holds (F := F) c (yRows (peer c) i) (share m c (peer c) i)))
      ⊢ (iprop((c : Thread nD τ).loc main_v1 ↦{fullShare} (result m c)) : sProp 𝕄) := by
  refine BIBase.Entails.trans ?_ (Entails.of_eq (y_parts c (result m c)).symm)
  exact BIClass.sep_mono (bigSep_mono fun i _ => holds_result m c c (Or.inl rfl) i) (bigSep_mono fun i _ => holds_result m c (peer c) (Or.inr rfl) i)

end Cert.KernelIdeal.Trade

end
-- ==== Proof.Ghost.lean ====
/-
What the launch deals the devices.

Every semaphore of the protocol is put under its invariant, for all devices at once. Each device keeps its positions
on its own semaphores, and gets the rights to the landings it causes: its own sends, and the other device's barrier
and receive semaphores.
-/
module

public import proofs.«01_k».proof.Proof.Parts
public import proofs.«01_k».proof.Proof.Gen.KernelIdeal.Launch
public import proofs.«01_k».proof.Proof.Gen.KernelIdeal.Points
public import Idealize.ShloMosaic.Lib.Pipeline.Launch

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Duty → ℕ)

/-! ## The semaphores -/

/-- The semaphores that belong to the kernel: sends and receives, the input slots, and the kept chunks. -/
abbrev Own : Type := (Fin 8 ⊕ Fin 8) ⊕ (Fin 2 ⊕ Fin 8)
def osem : Own → SemLoc sig
  | .inl x => .dma (dmaOf x)
  | .inr (.inl s) => .dma (inSem s)
  | .inr (.inr i) => .dma (keepSem i)
theorem ownSemFacts : Pipeline.OwnSemFacts cfg0.spec osem := by decide

/-- Something held for each kind of landing. -/
theorem by_duty (Φ : Duty → sProp 𝕄) :
    bigSep Finset.univ Φ = iprop(Φ Duty.bar ∗ (bigSep Finset.univ fun i : Fin 8 => Φ (Duty.send i)) ∗ (bigSep Finset.univ fun i : Fin 8 => Φ (Duty.recv i))) := by
  have h0 : bigSep (Finset.univ : Finset Unit) (fun a => Φ (.inl a)) = Φ Duty.bar := bigSep_singleton
  rw [bigSep_univ_sum, h0, bigSep_univ_sum]; rfl

/-- The counters of the protocol's semaphores, and those of the other semaphores, at zero. -/
def quiet (c : Dev nD) : sProp 𝕄 := bigSep Finset.univ fun d : Duty => semVal (cell (c, d)) 0
def zeros (c : Dev nD) : sProp 𝕄 :=
  iprop((bigSep Finset.univ fun s : Fin 2 => inZero (F := F) c s) ∗ (bigSep Finset.univ fun i : Fin 8 => keepZero (F := F) c i))

theorem unscoped_eq (c : Dev nD) : (unscopedSems0 c : sProp 𝕄) = semVal (cell (c, Duty.bar)) 0 := by
  unfold unscopedSems0; rw [bigSep_eq_bigSepL_of_eq [SemLoc.reg barSem] (by decide) (by decide)]; rfl
theorem own_eq (c : Dev nD) : (Pipeline.ownSems0 (Ix := Unit) (Name := ℕ) (U := UU) (Lvl := ℕ) (Val := Elt F) (τ := τ) osem c : sProp 𝕄)
    = iprop(((bigSep Finset.univ fun i : Fin 8 => semVal (cell (c, Duty.send i)) 0) ∗ (bigSep Finset.univ fun i : Fin 8 => semVal (cell (c, Duty.recv i)) 0)) ∗ zeros c) := by
  unfold Pipeline.ownSems0 zeros
  rw [bigSep_univ_sum, bigSep_univ_sum, bigSep_univ_sum]; rfl

theorem sems_take (c : Dev nD) :
    iprop(Pipeline.ownSems0 (Ix := Unit) (Name := ℕ) (U := UU) (Lvl := ℕ) (Val := Elt F) (τ := τ) osem c ∗ unscopedSems0 c)
      ⊢ (iprop(quiet c ∗ zeros c) : sProp 𝕄) := by
  rw [unscoped_eq, own_eq]
  unfold quiet
  iintro ⟨⟨⟨HS, HR⟩, HZ⟩, HB⟩
  isplitr [HZ]
  · iapply (Entails.of_eq (by_duty (fun d : Duty => (semVal (cell (c, d)) 0 : sProp 𝕄))).symm)
    isplitl [HB]; · iexact HB
    isplitl [HS]; · iexact HS
    iexact HR
  iexact HZ
theorem sems_give (c : Dev nD) :
    (iprop(quiet c ∗ zeros c) : sProp 𝕄)
      ⊢ iprop(unscopedSems0 c ∗ Pipeline.ownSems0 (Ix := Unit) (Name := ℕ) (U := UU) (Lvl := ℕ) (Val := Elt F) (τ := τ) osem c) := by
  rw [unscoped_eq, own_eq]
  unfold quiet
  iintro ⟨HQ, HZ⟩
  ihave H := (Entails.of_eq (by_duty (fun d : Duty => (semVal (cell (c, d)) 0 : sProp 𝕄)))) $$ HQ
  icases H with ⟨HB, HS, HR⟩
  isplitl [HB]; · iexact HB
  isplitr [HZ]
  · isplitl [HS]; · iexact HS
    iexact HR
  iexact HZ

/-! ## The launch element -/

def cells : Finset (GSem nD τ sig) := Finset.univ.map ⟨cell, cell_injective⟩
def rights : Finset (GSem nD τ sig × ℕ × Duty) :=
  Finset.univ.map ⟨fun cd : Dev nD × Duty => (cell cd, 0, cd.2), fun a b h => cell_injective (congrArg Prod.fst h)⟩
def u₀ : UU :=
  (initOf (Pipeline.cells cfgs cellOf_inj) (Pipeline.launchToks cfgs cellOf_inj), (initOf cells rights, 1))

/-- The rights to the landings on a device's own semaphores, and to those it causes. -/
def minted (c : Dev nD) : sProp 𝕄 := bigSep Finset.univ fun d : Duty => dutyTok ER (cell (c, d)) 0 d
def payer (c : Dev nD) : sProp 𝕄 :=
  iprop(dutyTok ER (cell (peer c, Duty.bar)) 0 Duty.bar ∗ (bigSep Finset.univ fun i : Fin 8 => dutyTok ER (cell (c, Duty.send i)) 0 (Duty.send i))
    ∗ (bigSep Finset.univ fun i : Fin 8 => dutyTok ER (cell (peer c, Duty.recv i)) 0 (Duty.recv i)))
/-- Where a device starts on each of its semaphores. -/
def starts (c : Dev nD) : sProp 𝕄 := bigSep Finset.univ fun d : Duty => atPos ER (cell (c, d)) 0 ∅ 0

/-- What the launch element deals device `c`, and what the devices make of it together. -/
def G (c : Dev nD) : sProp 𝕄 :=
  iprop((bigSep Finset.univ fun d : Duty => roundState ER (Rd m) (cell (c, d)) 0) ∗ starts c
    ∗ (bigSep Finset.univ fun d : Duty => reached ER (cell (c, d)) 0) ∗ minted c)
def tools (c : Dev nD) : sProp 𝕄 := iprop(starts (F := F) c ∗ payer (F := F) c ∗ zeros (F := F) c)
def G' (c : Dev nD) : sProp 𝕄 := iprop(∃ K, invs m K ∗ tools c)

theorem over_cells (Φ : GSem nD τ sig → sProp 𝕄) :
    bigSep cells Φ = bigSep Finset.univ fun c : Dev nD => bigSep Finset.univ fun d : Duty => Φ (cell (c, d)) := by
  unfold cells; rw [bigSep_map, bigSep_univ_prod]; rfl
theorem over_rights :
    bigSep rights (fun x => (dutyTok ER x.1 x.2.1 x.2.2 : sProp 𝕄)) = bigSep Finset.univ fun c : Dev nD => minted c := by
  unfold rights minted; rw [bigSep_map, bigSep_univ_prod]; rfl

theorem fund_all : BI.own (ER (initOf cells rights)) ⊢ (|==> bigSep Finset.univ (G m) : sProp 𝕄) := by
  iintro HX
  imod (Rounds.fund ER (Rd m) cells rights) $$ HX with ⟨Hst, Hr, Hat, Htok⟩
  imodintro
  ihave Hst := (Entails.of_eq (over_cells fun g => roundState ER (Rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_rights) $$ Htok
  unfold G starts; simp only [bigSep_sep']
  isplitl [Hst]; · iexact Hst
  isplitl [Hat]; · iexact Hat
  isplitl [Hr]; · iexact Hr
  iexact Htok

/-- The launch element is the pipeline's part and the protocol's. -/
theorem own_split (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem fund_launch : (ownU (u₀ : UU) : sProp 𝕄)
    ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (own_split _ _) $$ Hu
  icases H with ⟨HP, HX⟩
  imod (fund_all m) $$ HX with HG
  imodintro
  isplitl [HP]; · iexact HP
  iexact HG

/-! ## The step of all devices together -/

/-- A device's semaphores come under their invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun d : Duty => iprop(∃ κ : ℕ, cellInv ER (Rd m) κ (cell (c, d))))
          ∗ (bigSep Finset.univ fun d : Duty => reached ER (cell (c, d)) 0) ∗ starts c ∗ minted c ∗ zeros c) := by
  have hinv : iprop(quiet c ∗ bigSep Finset.univ fun d : Duty => roundState ER (Rd m) (cell (c, d)) 0)
      ⊢ (|={Set.univ}=> bigSep Finset.univ fun d : Duty => iprop(∃ κ : ℕ, cellInv ER (Rd m) κ (cell (c, d))) : sProp 𝕄) := by
    unfold quiet
    rw [← bigSep_sep']
    exact (bigSep_mono fun d _ => (Rounds.body_intro ER (Rd m) (cell (c, d))).trans inv_alloc).trans (bigSep_fupd _ _)
  unfold G
  iintro ⟨Hos, Hus, Hst, Hat, Hr, Htok⟩
  ihave Hv := (sems_take c) $$ [Hos Hus]
  · isplitl [Hos]; · iexact Hos
    iexact Hus
  icases Hv with ⟨Hq, Hz⟩
  imod hinv $$ [Hq Hst] with HI
  · isplitl [Hq]; · iexact Hq
    iexact Hst
  imodintro
  isplitl [HI]; · iexact HI
  isplitl [Hr]; · iexact Hr
  isplitl [Hat]; · iexact Hat
  isplitl [Htok]; · iexact Htok
  iexact Hz

/-- The rights to landings go to who causes them. -/
theorem rights_across : (bigSep Finset.univ fun c : Dev nD => (minted c : sProp 𝕄)) ⊢ bigSep Finset.univ fun c : Dev nD => payer c := by
  have h : ∀ c : Dev nD, (minted c : sProp 𝕄) = iprop(dutyTok ER (cell (c, Duty.bar)) 0 Duty.bar ∗ (bigSep Finset.univ fun i : Fin 8 => dutyTok ER (cell (c, Duty.send i)) 0 (Duty.send i))
      ∗ (bigSep Finset.univ fun i : Fin 8 => dutyTok ER (cell (c, Duty.recv i)) 0 (Duty.recv i))) := fun c => by_duty _
  rw [bigSep_congr fun c _ => h c]
  unfold payer
  rw [bigSep_sep', bigSep_sep', bigSep_sep', bigSep_sep',
    bigSep_univ_equiv swap (fun c : Dev nD => (dutyTok ER (cell (c, Duty.bar)) 0 Duty.bar : sProp 𝕄)),
    bigSep_univ_equiv swap (fun c : Dev nD => (bigSep Finset.univ fun i : Fin 8 => dutyTok ER (cell (c, Duty.recv i)) 0 (Duty.recv i) : sProp 𝕄))]
  exact .rfl

/-- Something everybody may use goes to everybody. -/
theorem share_out {R : sProp 𝕄} [BI.Persistent R] {Φ : Dev nD → sProp 𝕄} :
    iprop(R ∗ bigSep Finset.univ Φ) ⊢ bigSep Finset.univ fun c => iprop(R ∗ Φ c) :=
  (sep_mono_left (BI.bigSep_of_persistent Finset.univ R)).trans (by rw [← bigSep_sep'])

theorem gather :
    (bigSep Finset.univ fun c : Dev nD => iprop((bigSep Finset.univ fun d : Duty => iprop(∃ κ : ℕ, cellInv ER (Rd m) κ (cell (c, d))))
          ∗ (bigSep Finset.univ fun d : Duty => reached ER (cell (c, d)) 0) ∗ starts c ∗ minted c ∗ zeros c) : sProp 𝕄)
      ⊢ bigSep Finset.univ (G' m) := by
  rw [bigSep_sep', bigSep_sep', bigSep_sep', bigSep_sep', ← bigSep_univ_prod (fun ck : Dev nD × Duty => iprop(∃ κ : ℕ, cellInv ER (Rd m) κ (cell ck))),
    ← bigSep_univ_prod (fun ck : Dev nD × Duty => (reached ER (cell ck) 0 : sProp 𝕄))]
  iintro ⟨HI, HR, Hat, Htok, Hz⟩
  ihave HK := (BI.bigSep_exists_pi Finset.univ (fun (ck : Dev nD × Duty) (κ : ℕ) => (cellInv ER (Rd m) κ (cell ck) : sProp 𝕄))) $$ HI
  icases HK with ⟨%K, HI⟩
  ihave Htok := rights_across $$ Htok
  have hi : iprop((bigSep Finset.univ fun ck : Dev nD × Duty => cellInv ER (Rd m) (K ck) (cell ck)) ∗ bigSep Finset.univ fun ck : Dev nD × Duty => reached ER (cell ck) 0)
      ⊢ (invs m K : sProp 𝕄) := by unfold invs; rw [bigSep_sep']
  have ht : iprop((bigSep Finset.univ fun c : Dev nD => starts c) ∗ (bigSep Finset.univ fun c : Dev nD => payer c) ∗ bigSep Finset.univ fun c : Dev nD => zeros c)
      ⊢ (bigSep Finset.univ fun c : Dev nD => tools c : sProp 𝕄) := by unfold tools; rw [bigSep_sep', bigSep_sep']
  have hg : ∀ c : Dev nD, iprop(invs m K ∗ tools c) ⊢ (G' m c : sProp 𝕄) := fun c => by
    unfold G'; iintro H; iexists K; iexact H
  iapply ((share_out (R := invs m K) (Φ := fun c => tools c)).trans (bigSep_mono fun c _ => hg c))
  isplitl [HI HR]
  · iapply hi
    isplitl [HI]; · iexact HI
    iexact HR
  · iapply ht
    isplitl [Hat]; · iexact Hat
    isplitl [Htok]; · iexact Htok
    iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (gather m))

end Cert.KernelIdeal.Trade

end
-- ==== Proof.Device.lean ====
/-
One device, from what the launch deals it to its result.
-/
module

public import proofs.«01_k».proof.Proof.Ghost

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Duty → ℕ)

/-! ## The credit dealt at launch -/

theorem cell_bar_ne (c d : Dev nD) (i : Fin 8) : cell (c, Duty.bar) ≠ cell (d, Duty.recv i) := fun h => by
  have h' := congrArg Prod.snd (cell_injective h); cases h'

theorem owed_apply_recv (d c : Dev nD) (i : Fin 8) : O₀ d (cell (c, Duty.recv i)) () = if d = peer c then N else 0 := by
  unfold O₀ owed
  rw [Pi.add_apply, Finsupp.add_apply, tallyAt_ne_cell (fun h => cell_bar_ne _ _ _ h.symm), Finsupp.zero_apply, Nat.add_zero,
    Finset.filter_true_of_mem (fun i _ => Nat.zero_le _), Finset.sum_apply, Finsupp.finset_sum_apply]
  by_cases h : d = peer c
  · subst h
    rw [if_pos rfl, Finset.sum_eq_single i, tallyAt_apply, peer_peer, if_pos ⟨rfl, rfl⟩]
    · intro j _ hj
      rw [tallyAt_apply, if_neg]
      rintro ⟨h, -⟩
      have h' := congrArg Prod.snd (cell_injective h)
      exact hj (Sum.inr.inj (Sum.inr.inj h')).symm
    · exact fun h => absurd (Finset.mem_univ _) h
  · rw [if_neg h]
    refine Finset.sum_eq_zero fun j _ => ?_
    rw [tallyAt_apply, if_neg]
    rintro ⟨h', -⟩
    have h1 : c = peer d := congrArg Prod.fst (cell_injective h')
    exact h (by rw [h1, peer_peer])

theorem owed_apply_bar (d c : Dev nD) : O₀ d (cell (c, Duty.bar)) () = if d = peer c then 1 else 0 := by
  unfold O₀ owed
  rw [Pi.add_apply, Finsupp.add_apply, Finset.sum_apply, Finsupp.finset_sum_apply,
    Finset.sum_eq_zero (fun j _ => by rw [tallyAt_ne_cell (cell_bar_ne _ _ _)]; rfl), Nat.zero_add, tallyAt_apply]
  by_cases h : d = peer c
  · subst h; rw [peer_peer, if_pos ⟨rfl, rfl⟩, if_pos rfl]
  · rw [if_neg h, if_neg]
    rintro ⟨h', -⟩
    have h1 : c = peer d := congrArg Prod.fst (cell_injective h')
    exact h (by rw [h1, peer_peer])

/-- The credit a device is dealt on one of its semaphores. -/
def due (c : Dev nD) (d : Duty) : CellTallies nD τ sig Unit := tallyOn (cell (c, d)) (launchCredit (Pipeline.owing O₀) 0 (cell (c, d)))
theorem due_recv (c : Dev nD) (i : Fin 8) : due c (Duty.recv i) = tallyAt (cell (c, Duty.recv i)) () N := by
  unfold due tallyAt; refine congrArg _ (Finsupp.ext fun u => ?_); cases u
  rw [Pipeline.launchCredit_owing, Finsupp.single_eq_same, Finset.sum_congr rfl fun d _ => owed_apply_recv d c i,
    Finset.sum_ite_eq' Finset.univ (peer c) fun _ => N, if_pos (Finset.mem_univ _)]
theorem due_bar (c : Dev nD) : due c Duty.bar = tallyAt (cell (c, Duty.bar)) () 1 := by
  unfold due tallyAt; refine congrArg _ (Finsupp.ext fun u => ?_); cases u
  rw [Pipeline.launchCredit_owing, Finsupp.single_eq_same, Finset.sum_congr rfl fun d _ => owed_apply_bar d c,
    Finset.sum_ite_eq' Finset.univ (peer c) fun _ => 1, if_pos (Finset.mem_univ _)]

/-- The credit of the barrier and of every receive semaphore. -/
def credits (c : Dev nD) : sProp 𝕄 :=
  iprop(cred (tallyAt (cell (c, Duty.bar)) () 1) ∗ bigSep Finset.univ fun i : Fin 8 => cred (tallyAt (cell (c, Duty.recv i)) () N))

theorem credits_of_launch (c : Dev nD) : (Pipeline.launchCred O₀ c : sProp 𝕄) ⊢ credits c := by
  have h1 : (Pipeline.launchCred O₀ c : sProp 𝕄) ⊢ bigSep Finset.univ fun d : Duty => cred (due c d) := by
    have he : (bigSep Finset.univ fun d : Duty => (cred (due c d) : sProp 𝕄))
        = bigSep (Finset.univ.map ⟨dsem, dsem_injective⟩) fun sm : SemLoc sig => cred (tallyOn (c.tc, sm) (launchCredit (Pipeline.owing O₀) 0 (c.tc, sm))) := by
      rw [bigSep_map]; rfl
    rw [he]
    exact bigSep_subset (Finset.subset_univ _)
  have h2 : (bigSep Finset.univ fun d : Duty => (cred (due c d) : sProp 𝕄))
      = iprop(cred (due c Duty.bar) ∗ (bigSep Finset.univ fun i : Fin 8 => cred (due c (Duty.send i))) ∗ (bigSep Finset.univ fun i : Fin 8 => cred (due c (Duty.recv i)))) :=
    by_duty _
  unfold credits
  rw [due_bar, bigSep_congr (s := (Finset.univ : Finset (Fin 8))) (Φ := fun i => (cred (due c (Duty.recv i)) : sProp 𝕄)) fun i _ => by rw [due_recv]] at h2
  iintro H
  ihave H := (h1.trans (Entails.of_eq h2)) $$ H
  icases H with ⟨HB, -, HR⟩
  isplitl [HB]; · iexact HB
  iexact HR

/-! ## Before and after the trade -/

/-- What a device starts from, besides its on-chip buffers and what it owes. -/
def start (c : Dev nD) : sProp 𝕄 :=
  iprop(G' m c ∗ credits c ∗ levAts L lv ∗ xAll m c ∗ ((c : Thread nD τ).loc main_v1 ↦{fullShare} m ((c : Thread nD τ).loc main_v1)))
/-- What it ends with. -/
def finish (c : Dev nD) : sProp 𝕄 :=
  iprop((quiet c ∗ zeros c) ∗ xAll m c ∗ ((c : Thread nD τ).loc main_v1 ↦{fullShare} (result m c)) ∗ chips c)

theorem before_intro (c : Dev nD) :
    iprop(tools c ∗ credits c ∗ xAll m c ∗ ((c : Thread nD τ).loc main_v1 ↦{fullShare} m ((c : Thread nD τ).loc main_v1)) ∗ chips c
        ∗ ∃ W, owes (c : Thread nD τ) (O₀ c) W)
      ⊢ (before m c : sProp 𝕄) := by
  have hz : (bigSep Finset.univ fun s : Fin 2 => inZero (F := F) c s) = iprop(inZero c 0 ∗ inZero c 1) := bigSep_fin_two _
  have ha : (starts c : sProp 𝕄) = iprop(atPos ER (cell (c, Duty.bar)) 0 ∅ 0 ∗ (bigSep Finset.univ fun i : Fin 8 => atPos ER (cell (c, Duty.send i)) 0 ∅ 0)
      ∗ (bigSep Finset.univ fun i : Fin 8 => atPos ER (cell (c, Duty.recv i)) 0 ∅ 0)) := by_duty _
  have hw : iprop((bigSep Finset.univ fun i : Fin 8 => cred (tallyAt (cell (c, Duty.recv i)) () N)) ∗ (bigSep Finset.univ fun i : Fin 8 => atPos ER (cell (c, Duty.recv i)) 0 ∅ 0))
      ⊢ (bigSep Finset.univ fun i : Fin 8 => awaited c i : sProp 𝕄) := by unfold awaited; rw [bigSep_sep']
  have hu : iprop((bigSep Finset.univ fun i : Fin 8 => dutyTok ER (cell (c, Duty.send i)) 0 (Duty.send i)) ∗ (bigSep Finset.univ fun i : Fin 8 => dutyTok ER (cell (peer c, Duty.recv i)) 0 (Duty.recv i))
        ∗ (bigSep Finset.univ fun i : Fin 8 => atPos ER (cell (c, Duty.send i)) 0 ∅ 0) ∗ (bigSep Finset.univ fun i : Fin 8 => keepZero c i)
        ∗ (bigSep Finset.univ fun i : Fin 8 => held c (yRows c i)))
      ⊢ (bigSep Finset.univ fun i : Fin 8 => unready c i : sProp 𝕄) := by unfold unready; rw [bigSep_sep', bigSep_sep', bigSep_sep', bigSep_sep']
  have hc : (chips c : sProp 𝕄) ⊢ iprop(held c (inSlot 0) ∗ held c (inSlot 1) ∗ halves c 0 ∗ halves c 1) := chips_split c
  unfold tools payer zeros credits before meeting slots
  rw [ha, hz]
  iintro ⟨⟨⟨AB, AS, AR⟩, ⟨TB, TS, TR⟩, ⟨Z0, Z1⟩, ZK⟩, ⟨CB, CR⟩, Hx, Hy, Hc, HO⟩
  ihave Hy := (y_split c _) $$ Hy
  icases Hy with ⟨Hy, Hl⟩
  ihave Hc := hc $$ Hc
  icases Hc with ⟨Hi0, Hi1, Hh0, Hh1⟩
  isplitl [Hx]; · iexact Hx
  isplitl [Hi0 Hi1 Z0 Z1 Hh0 Hh1]
  · isplitl [Hi0]; · iexact Hi0
    isplitl [Hi1]; · iexact Hi1
    isplitl [Z0]; · iexact Z0
    isplitl [Z1]; · iexact Z1
    isplitl [Hh0]; · iexact Hh0
    iexact Hh1
  isplitl [TB CB AB]
  · isplitl [TB]; · iexact TB
    isplitl [CB]; · iexact CB
    iexact AB
  isplitl [Hl]; · iexact Hl
  isplitl [HO]; · iexact HO
  isplitl [TS TR AS ZK Hy]
  · iapply hu
    isplitl [TS]; · iexact TS
    isplitl [TR]; · iexact TR
    isplitl [AS]; · iexact AS
    isplitl [ZK]; · iexact ZK
    iexact Hy
  · iapply hw
    isplitl [CR]; · iexact CR
    iexact AR

/-- The protocol over, the semaphores are taken back, at zero. -/
theorem close (c : Dev nD) :
    iprop(invs m K ∗ bigSep Finset.univ fun d : Duty => atPos ER (cell (c, d)) (0 + 1) ∅ 0) ⊢ (|={Set.univ}=> quiet c : sProp 𝕄) := by
  have h : ∀ d : Duty, iprop(invs m K ∗ atPos ER (cell (c, d)) (0 + 1) ∅ 0) ⊢ (|={Set.univ}=> semVal (cell (c, d)) 0 : sProp 𝕄) := fun d => by
    iintro ⟨HI, Ha⟩
    ihave H := (invs_at m K (c, d)) $$ HI
    icases H with ⟨HI, -⟩
    iapply (Rounds.cell_close ER (Rd m) (Set.mem_univ (K (c, d))) (fun h => h) (R := 0 + 1) (duties_later m (cell (c, d))))
    isplitl [HI]; · iexact HI
    iexact Ha
  refine (sep_mono_left (BI.bigSep_of_persistent (Finset.univ : Finset Duty) (invs m K))).trans ?_
  rw [← bigSep_sep']
  exact (bigSep_mono fun d _ => h d).trans (bigSep_fupd _ _)

theorem after_elim (c : Dev nD) :
    iprop(invs m K ∗ after m c) ⊢ (|={Set.univ}=> iprop(finish m c ∗ ∃ W, owes (c : Thread nD τ) 0 W) : sProp 𝕄) := by
  have hz : (bigSep Finset.univ fun s : Fin 2 => inZero (F := F) c s) = iprop(inZero c 0 ∗ inZero c 1) := bigSep_fin_two _
  have hd : (bigSep Finset.univ fun i : Fin 8 => done m c i : sProp 𝕄)
      = iprop((bigSep Finset.univ fun i : Fin 8 => atPos ER (cell (c, Duty.send i)) (0 + 1) ∅ 0) ∗ (bigSep Finset.univ fun i : Fin 8 => holds c (yRows c i) (share m c c i))
        ∗ (bigSep Finset.univ fun i : Fin 8 => keepZero c i)) := by unfold done; rw [bigSep_sep', bigSep_sep']
  have hg : (bigSep Finset.univ fun i : Fin 8 => got m c i : sProp 𝕄)
      = iprop((bigSep Finset.univ fun i : Fin 8 => holds c (yRows (peer c) i) (share m c (peer c) i)) ∗ (bigSep Finset.univ fun i : Fin 8 => atPos ER (cell (c, Duty.recv i)) (0 + 1) ∅ 0)) := by
    unfold got; rw [bigSep_sep']
  have ha : (bigSep Finset.univ fun d : Duty => (atPos ER (cell (c, d)) (0 + 1) ∅ 0 : sProp 𝕄))
      = iprop(atPos ER (cell (c, Duty.bar)) (0 + 1) ∅ 0 ∗ (bigSep Finset.univ fun i : Fin 8 => atPos ER (cell (c, Duty.send i)) (0 + 1) ∅ 0)
        ∗ (bigSep Finset.univ fun i : Fin 8 => atPos ER (cell (c, Duty.recv i)) (0 + 1) ∅ 0)) := by_duty _
  unfold after slots finish zeros
  rw [hd, hg, hz]
  iintro ⟨HI, Hx, ⟨Hi0, Hi1, Z0, Z1, Hh0, Hh1⟩, AB, HO, ⟨AS, Hown, ZK⟩, Hgot, AR⟩
  imod (close m K c) $$ [HI AB AS AR] with Hq
  · isplitl [HI]; · iexact HI
    iapply (Entails.of_eq ha.symm)
    isplitl [AB]; · iexact AB
    isplitl [AS]; · iexact AS
    iexact AR
  imodintro
  isplitr [HO]
  · isplitl [Hq Z0 Z1 ZK]
    · isplitl [Hq]; · iexact Hq
      isplitl [Z0 Z1]
      · isplitl [Z0]; · iexact Z0
        iexact Z1
      iexact ZK
    isplitl [Hx]; · iexact Hx
    isplitl [Hown Hgot]
    · iapply (y_join m c)
      isplitl [Hown]; · iexact Hown
      iexact Hgot
    · iapply (chips_join c)
      unfold chipSlots
      isplitl [Hi0]; · iexact Hi0
      isplitl [Hi1]; · iexact Hi1
      isplitl [Hh0]; · iexact Hh0
      iexact Hh1
  · iexact HO

/-- The printed body, on device `c`. -/
theorem device (c : Dev nD) :
    iprop(start m c ∗ chips c ∗ ∃ W, owes (c : Thread nD τ) (O₀ c) W)
      ⊢ run c (bodyAt0 t0_0) fun _ => iprop(finish m c ∗ ∃ W, owes (c : Thread nD τ) 0 W) := by
  rw [show (bodyAt0 (F := F) t0_0) = (Prog.lift .deviceId >>= fun d => trade d) from body_eq]
  simp only [Prog.lift, Prog.bind_op, Prog.bind_ret]
  rw [run, wp_deviceId]
  unfold start G'
  iintro ⟨⟨⟨%K, #HI, Ht⟩, Hcr, Hlev, Hx, Hy⟩, Hc, HO⟩
  ihave Hb := (before_intro m c) $$ [Ht Hcr Hx Hy Hc HO]
  · isplitl [Ht]; · iexact Ht
    isplitl [Hcr]; · iexact Hcr
    isplitl [Hx]; · iexact Hx
    isplitl [Hy]; · iexact Hy
    isplitl [Hc]; · iexact Hc
    iexact HO
  iapply (wp_fupd frame _ Set.univ (trade c) _)
  iapply (trade_spec m K c) $$ [Hlev Hb]
  · isplitr; · iexact HI
    isplitl [Hlev]; · iexact Hlev
    iexact Hb
  iintro Ha
  iapply (after_elim m K c)
  isplitr; · iexact HI
  iexact Ha

end Cert.KernelIdeal.Trade

end
-- ==== Proof.Run.lean ====
/-
The run of the whole mesh: every device ends with its result, its argument as it was, and every counter at zero.
-/
module

public import proofs.«01_k».proof.Proof.Device
public import Idealize.ShloMosaic.Lib.Pipeline.CollectiveSegs

@[expose] public section

noncomputable section

namespace Cert.KernelIdeal.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch theorem is told of a device: no array goes through the pipeline; the body is met with `start`
    and left with `finish`; the debt is paid in the body. -/
def dats (_ : Fin 1) (c : Dev nD) : Dat τ (Elt F) Unit ℕ UU ℕ cfg0 c where
  A w := w.elim0
  after w _ := w.elim0
  Φ t := match t with
    | ⟨0, _⟩ => iprop(start m c ∗ chips c)
    | ⟨_ + 1, _⟩ => finish m c
  q _ := fullShare
  owed t := match t with
    | ⟨0, _⟩ => O₀ c
    | ⟨_ + 1, _⟩ => 0

/-- A separating product over no windows holds of nothing. -/
theorem no_windows (Ψ : Fin cfg0.W → sProp 𝕄) : bigSep Finset.univ Ψ = iprop(emp) := by
  rw [show (Finset.univ : Finset (Fin cfg0.W)) = ∅ from by decide]; exact bigSep_empty

set_option maxRecDepth 4000 in
theorem body_met (c : Dev nD) : BodyObligation (dats (F := F) m 0 c) (defs₀ (F := F)) 𝒱₀ () Set.univ := fun t => by
  rw [fin_N0 t, no_windows, no_windows]
  show iprop((start m c ∗ chips c) ∗ (dats m 0 c).owesAt () (Fin.castSucc t0_0) ∗ emp)
    ⊢ run c (bodyAt0 t0_0) (fun _ => iprop(finish m c ∗ (dats m 0 c).owesAt () (Fin.succ t0_0) ∗ emp))
  have h0 : (dats m 0 c).owesAt () (Fin.castSucc t0_0) ⊢ iprop(∃ W, owes (c : Thread nD τ) (O₀ c) W) := by
    unfold Dat.owesAt Pipeline.owesWithin
    iintro ⟨%W, -, H⟩
    iexists W; iexact H
  have h1 : iprop(∃ W, owes (c : Thread nD τ) 0 W) ⊢ (dats m 0 c).owesAt () (Fin.succ t0_0) := by
    unfold Dat.owesAt Pipeline.owesWithin
    iintro ⟨%W, H⟩
    iexists W
    isplitr; · ipureintro; exact fun _ _ => Or.inl trivial
    iexact H
  have hpost : ∀ u : PUnit.{1}, iprop(finish m c ∗ ∃ W, owes (c : Thread nD τ) 0 W) ⊢ iprop(finish m c ∗ (dats m 0 c).owesAt () (Fin.succ t0_0) ∗ emp) := fun _ => by
    iintro ⟨Hf, HO⟩
    isplitl [Hf]; · iexact Hf
    isplitl [HO]
    · iapply h1; iexact HO
    iempintro
  have hpre : iprop((start m c ∗ chips c) ∗ (dats m 0 c).owesAt () (Fin.castSucc t0_0) ∗ emp)
      ⊢ iprop(start m c ∗ chips c ∗ ∃ W, owes (c : Thread nD τ) (O₀ c) W) := by
    iintro ⟨⟨Hs, Hc⟩, HO, -⟩
    isplitl [Hs]; · iexact Hs
    isplitl [Hc]; · iexact Hc
    iapply h0; iexact HO
  exact hpre.trans ((device m c).trans (wp_mono frame (wpE (defs₀ (F := F)) 𝒱₀ (c : Thread nD τ) none) Set.univ hpost))

/-! ## Entering and leaving -/

theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start xAll
  iintro ⟨⟨Hx, Hy⟩, Hlev, Hcr, -, HG⟩
  ihave Hcr := (credits_of_launch c) $$ Hcr
  imodintro
  isplitl
  · isplitl [HG]; · iexact HG
    isplitl [Hcr]; · iexact Hcr
    isplitl [Hlev]; · iexact Hlev
    isplitl [Hx]; · iexact Hx
    iexact Hy
  · iempintro

theorem reach (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ chips c) from rfl, scopedRest0_eq]
  unfold chips
  iintro ⟨Hs, -, Hc⟩
  isplitl [Hs]; · iexact Hs
  iexact Hc

/-- What a device keeps for the end of the run. -/
def kept (c : Dev nD) : sProp 𝕄 :=
  iprop(unscopedSems0 c ∗ xAll m c ∗ ((c : Thread nD τ).loc main_v1 ↦{fullShare} (result m c)))

theorem leave (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = finish m c from rfl, scopedRest0_eq]
  unfold finish kept chips
  iintro ⟨Hz, Hx, Hy, Hc⟩
  ihave Hz := (sems_give c) $$ Hz
  icases Hz with ⟨Hu, Ho⟩
  isplitl [Hu Hx Hy]
  · isplitl [Hu]; · iexact Hu
    isplitl [Hx]; · iexact Hx
    iexact Hy
  isplitl [Ho]; · iexact Ho
  iexact Hc

theorem waits (c : Dev nD) : (levAts L lv : sProp 𝕄) ⊢ Pipeline.cellsWaits cfgs (dats m) () 0 c :=
  Pipeline.cellsWaits_intro cfgs (dats m) () 0 c fun w => w.elim0

/-- What is read off one device at the end. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = result m c

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  iexact HSI

theorem ends (c : Dev nD) (s' : Phys nD τ sig (Elt F)) :
    iprop(kept m c ∗ emp ∗ SI s') ⊢ (|={Set.univ}=> iprop(⌜Ends m c s'.mem⌝ ∗ SI s') : sProp 𝕄) := by
  unfold kept xAll
  iintro ⟨⟨Hu, Hx, Hy⟩, -, HSI⟩
  ihave H := (read_one _ _ s') $$ [Hx HSI]
  · isplitl [Hx]; · iexact Hx
    iexact HSI
  icases H with ⟨%hx, HSI⟩
  ihave H := (read_one _ _ s') $$ [Hy HSI]
  · isplitl [Hy]; · iexact Hy
    iexact HSI
  icases H with ⟨%hy, HSI⟩
  imod (Pipeline.unscopedSems0_read (X := unscopedSems0 c) (c := c) fupd_intro s') $$ [Hu HSI] with H
  · isplitl [Hu]; · iexact Hu
    iexact HSI
  icases H with ⟨%hs, HSI⟩
  imodintro
  isplitr
  · ipureintro; exact ⟨hs, hx, hy⟩
  iexact HSI

set_option maxRecDepth 8000 in
/-- From any memory with every counter at zero, every fair run of the mesh ends; the argument is unchanged, the
    result is `result`, and every counter is at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = result m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_met m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund_launch m) (hglob := glob m)
    (hA := fun _ w => w.elim0) (hpf := fun _ k => k.elim0)
    (X := start m) (Y := kept m) (Z := fun _ => iprop(emp))
    (hX := enter m ρ) (hin := reach m) (hout := leave m)
    (QY := fun c s => Ends m c s)
    (hY := ends m)
    (hQ := fun _ h hs => ⟨fun c => (h c).2.2.2, sem_eq_zero hs fun c => (h c).2.2.1⟩)

end Cert.KernelIdeal.Trade

end
-- ==== Proof.Value.lean ====
/-
The result of a device is its columns of the whole argument, rounded to bf16.
-/
module

public import proofs.«01_k».proof.Proof.Parts
public import Idealize.ShloMosaic.Lib.Layout
public import Idealize.ShloMosaic.Lib.Pipeline.Value

@[expose] public section

noncomputable section

namespace Cert.KernelIdeal.Trade

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The whole argument. -/
abbrev SWhole : Shape := ⟨2, ![32768, 2048]⟩

/-- The rows a device has of the whole argument, and the columns it ends with of the whole result. -/
abbrev rowsOf {α : Type} (c : Dev nD) (w : SWhole.Idx → α) : S16384x2048.Idx → α :=
  Layout.blockN ⟨2, ![16384, 2048]⟩ ⟨2, ![32768, 2048]⟩ (Layout.meshBlock [2, 4, 4] ![[0], []] c) w
abbrev colsOf {α : Type} (c : Dev nD) (w : SWhole.Idx → α) : S32768x1024.Idx → α :=
  Layout.blockN ⟨2, ![32768, 1024]⟩ ⟨2, ![32768, 2048]⟩ (Layout.meshBlock [2, 4, 4] ![[], [0]] c) w

theorem row_block : ∀ c : Dev nD, Layout.meshLin [2, 4, 4] c.val [0] = c.val / 16 := by decide

/-- An element of the whole array, by its row and column. -/
def at_ (r l : ℕ) (hr : r < 32768) (hl : l < 2048) : SWhole.Idx := fun a => match a with
  | ⟨0, _⟩ => ⟨r, hr⟩
  | ⟨1, _⟩ => ⟨l, hl⟩

theorem rows_at {α : Type} (c : Dev nD) (w : SWhole.Idx → α) (i : S16384x2048.Idx) (hr hl) :
    rowsOf c w i = w (at_ (16384 * (c.val / 16) + (i 0).val) (i 1).val hr hl) := by
  refine congrArg w (funext fun a => Fin.ext ?_)
  match a with
  | ⟨0, _⟩ => show Layout.meshLin [2, 4, 4] c.val [0] * 16384 + (i 0).val = 16384 * (c.val / 16) + (i 0).val; rw [row_block]; omega
  | ⟨1, _⟩ => show 0 * 2048 + (i 1).val = (i 1).val; omega

theorem cols_at {α : Type} (c : Dev nD) (w : SWhole.Idx → α) (j : S32768x1024.Idx) (hr hl) :
    colsOf c w j = w (at_ (j 0).val (1024 * (c.val / 16) + (j 1).val) hr hl) := by
  refine congrArg w (funext fun a => Fin.ext ?_)
  match a with
  | ⟨0, _⟩ => show 0 * 32768 + (j 0).val = (j 0).val; omega
  | ⟨1, _⟩ => show Layout.meshLin [2, 4, 4] c.val [0] * 1024 + (j 1).val = 1024 * (c.val / 16) + (j 1).val; rw [row_block]; omega

/-- An element of a chunk, by its row and column. -/
def inChunk (r l : ℕ) (hr : r < 2048) (hl : l < 2048) : S2048x2048.Idx := fun a => match a with
  | ⟨0, _⟩ => ⟨r, hr⟩
  | ⟨1, _⟩ => ⟨l, hl⟩
/-- The same element in the device's rows. -/
def inRows (r l : ℕ) (hr : r < 16384) (hl : l < 2048) : S16384x2048.Idx := fun a => match a with
  | ⟨0, _⟩ => ⟨r, hr⟩
  | ⟨1, _⟩ => ⟨l, hl⟩

theorem half_at (b : ℕ) (hb : b < 2) (v : FVec F S2048x2048 .f32) (p : S2048x1024.Idx) (hr hl) :
    half b v p = FloatOps.truncf .bf16 bitsLt_bf16_f32 (v (inChunk (p 0).val (1024 * b + (p 1).val) hr hl)) := by
  unfold half
  have hb' : b = 0 ∨ b = 1 := by omega
  rcases hb' with rfl | rfl
  · rw [if_pos rfl]
    refine congrArg (FloatOps.truncf .bf16 bitsLt_bf16_f32) (extractStridedSlice_apply _ v _ p _ fun a => ?_)
    match a with
    | ⟨0, _⟩ => show (p 0).val = 0 + (p 0).val; omega
    | ⟨1, _⟩ => show 1024 * 0 + (p 1).val = 0 + (p 1).val; omega
  · rw [if_neg (by omega)]
    refine congrArg (FloatOps.truncf .bf16 bitsLt_bf16_f32) (extractStridedSlice_apply _ v _ p _ fun a => ?_)
    match a with
    | ⟨0, _⟩ => show (p 0).val = 0 + (p 0).val; omega
    | ⟨1, _⟩ => show 1024 * 1 + (p 1).val = 1024 + (p 1).val; omega

theorem chunk_at (d : Dev nD) (i : Fin 8) (q : S2048x2048.Idx) (hr hl) :
    chunk m d i q = m ((d : Thread nD τ).loc main_arg0) (inRows (2048 * i.val + (q 0).val) (q 1).val hr hl) := by
  unfold chunk
  rw [View.read_apply]
  refine (show m ((d : Thread nD τ).loc main_arg0) ((xRows i).view.emb q) = _ from congrArg (m ((d : Thread nD τ).loc main_arg0)) (funext fun a => Fin.ext ?_))
  match a with
  | ⟨0, _⟩ => show 2048 * i.val + 1 * (q 0).val = 2048 * i.val + (q 0).val; omega
  | ⟨1, _⟩ => show 0 + 1 * (q 1).val = (q 1).val; omega

theorem places : ∀ c : Dev nD, (peer c).val / 16 + c.val / 16 = 1 := by decide

/-- The owner of a row of the result is the device placed where the row lies. -/
theorem owner_place (c : Dev nD) (j : S32768x1024.Idx) : (owner c j).val / 16 = (j 0).val / 16384 := by
  have h := places c
  have hj : (j 0).val < 32768 := (j 0).isLt
  unfold owner
  by_cases h' : (j 0).val / 16384 = place c
  · rw [if_pos h']; exact h'.symm
  · rw [if_neg h']
    have : (j 0).val / 16384 ≠ c.val / 16 := h'
    omega

theorem at_eq {r l r' l' : ℕ} (hr : r < 32768) (hl : l < 2048) (hr' : r' < 32768) (hl' : l' < 2048) (h : r = r') (h' : l = l') :
    at_ r l hr hl = at_ r' l' hr' hl' := by subst h; subst h'; rfl

/-- If every device has its rows of `w`, each ends with its columns of `w`, rounded. -/
theorem result_eq (w : SWhole.Idx → Elt F .f32) (hw : ∀ c : Dev nD, m ((c : Thread nD τ).loc main_arg0) = rowsOf c w) (c : Dev nD) :
    result m c = colsOf c (truncf .bf16 (w : FVec F SWhole .f32) bitsLt_bf16_f32) := by
  funext j
  have hj0 : (j 0).val < 32768 := (j 0).isLt
  have hj1 : (j 1).val < 1024 := (j 1).isLt
  have hc : c.val / 16 < 2 := by have : c.val < 32 := c.isLt; omega
  have ho := owner_place c j
  rw [cols_at c _ j hj0 (by omega)]
  unfold result share
  have w0 : ((within j) 0).val = (j 0).val % 2048 := rfl
  have w1 : ((within j) 1).val = (j 1).val := rfl
  rw [half_at (place c) hc _ _ (by rw [w0]; omega) (by rw [w1]; unfold place; omega)]
  have hk : (chunkOf j).val = (j 0).val % 16384 / 2048 := rfl
  show FloatOps.truncf .bf16 bitsLt_bf16_f32 _ = FloatOps.truncf .bf16 bitsLt_bf16_f32 _
  refine congrArg (FloatOps.truncf .bf16 bitsLt_bf16_f32) ?_
  rw [chunk_at m _ _ _ (by show 2048 * (chunkOf j).val + ((within j) 0).val < 16384; rw [hk, w0]; omega)
    (by show 1024 * (c.val / 16) + ((within j) 1).val < 2048; rw [w1]; omega), hw,
    rows_at _ _ _ (by show 16384 * ((owner c j).val / 16) + (2048 * (chunkOf j).val + ((within j) 0).val) < 32768; rw [ho, hk, w0]; omega)
    (by show 1024 * (c.val / 16) + ((within j) 1).val < 2048; rw [w1]; omega)]
  refine congrArg w (at_eq _ _ _ _ ?_ ?_)
  · show 16384 * ((owner c j).val / 16) + (2048 * (chunkOf j).val + ((within j) 0).val) = (j 0).val
    rw [ho, hk, w0]; omega
  · rfl

end Cert.KernelIdeal.Trade

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.KernelIdeal.Trade

/-- The kernel's frame. Its text is its idealization's, so the one run, at words, is its run. -/
theorem frame_kernel : Cert.quiescent_Kernel := fun m ρ _ =>
  (θ_run Cert.KernelIdeal.defs _ _).mono (fun _ h => ⟨fun c => (h.1 c).1, h.2⟩) (run_main (F := Bits) m ρ)

theorem frame_kernel_ideal : Cert.quiescent_KernelIdeal := fun m ρ _ =>
  (θ_run Cert.KernelIdeal.defs _ _).mono (fun _ h => ⟨fun c => (h.1 c).1, h.2⟩) (run_main (F := Ideal) m ρ)

/-- The references declare no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the extended reals, every device ends with its columns of the reference's result. -/
theorem algebraic : Cert.algebraic_KernelIdeal_ReferenceIdeal := fun m ρ m' ρ' _ hw =>
  ⟨_, (θ_run Cert.KernelIdeal.defs _ _).mono (fun _ h c => ⟨(h.1 c).2.trans (result_eq m _ hw c), (h.1 c).1⟩) (run_main (F := Ideal) m ρ),
    (θ_run Cert.ReferenceIdeal.defs _ _).mono (fun _ h => h 0) (Cert.ReferenceIdeal.Value.run (F := Ideal) m' ρ')⟩

/-- On words, the same: the kernel rounds as the reference does. -/
theorem bitexact : Cert.bitexact_Kernel_Reference := fun m ρ m' ρ' _ hw =>
  ⟨_, (θ_run Cert.KernelIdeal.defs _ _).mono (fun _ h c => ⟨(h.1 c).2.trans (result_eq m _ hw c), (h.1 c).1⟩) (run_main (F := Bits) m ρ),
    (θ_run Cert.Reference.defs _ _).mono (fun _ h => h 0) (Cert.Reference.Value.run (F := Bits) m' ρ')⟩

theorem claim : Cert.Claim := ⟨Cert.Kernel.Gen.facts, Cert.KernelIdeal.Gen.facts, Cert.ReferenceIdeal.Gen.facts, Cert.Reference.Gen.facts,
  frame_kernel, frame_kernel_ideal, frame_reference_ideal, frame_reference, trivial, algebraic, bitexact⟩

end Cert.Proof

end
